-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v300) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x96x224x224 : Shape := ⟨4, ![4, 96, 224, 224]⟩
abbrev S120x96x3x3 : Shape := ⟨4, ![120, 96, 3, 3]⟩
abbrev S120 : Shape := ⟨1, ![120]⟩
abbrev S16x8 : Shape := ⟨2, ![16, 8]⟩
abbrev S32x16 : Shape := ⟨2, ![32, 16]⟩
abbrev S64x32 : Shape := ⟨2, ![64, 32]⟩
abbrev S4x96x50176 : Shape := ⟨3, ![4, 96, 50176]⟩
abbrev S3x3x120x96 : Shape := ⟨4, ![3, 3, 120, 96]⟩
abbrev S9x120x96 : Shape := ⟨3, ![9, 120, 96]⟩
abbrev S120x1 : Shape := ⟨2, ![120, 1]⟩
abbrev S4x120x222x222 : Shape := ⟨4, ![4, 120, 222, 222]⟩
abbrev S1x96x1792 : Shape := ⟨3, ![1, 96, 1792]⟩
abbrev S1x96x896 : Shape := ⟨3, ![1, 96, 896]⟩
abbrev S1x120x8x222 : Shape := ⟨4, ![1, 120, 8, 222]⟩
abbrev S96x1792 : Shape := ⟨2, ![96, 1792]⟩
abbrev S96x896 : Shape := ⟨2, ![96, 896]⟩
abbrev S96x2688 : Shape := ⟨2, ![96, 2688]⟩
abbrev S120x1792 : Shape := ⟨2, ![120, 1792]⟩
abbrev S1x120x96 : Shape := ⟨3, ![1, 120, 96]⟩
abbrev S120x96 : Shape := ⟨2, ![120, 96]⟩
abbrev S8x1792 : Shape := ⟨2, ![8, 1792]⟩
abbrev S1792 : Shape := ⟨1, ![1792]⟩
abbrev S1x1792 : Shape := ⟨2, ![1, 1792]⟩
abbrev S8x222 : Shape := ⟨2, ![8, 222]⟩
abbrev S1x8x1x222 : Shape := ⟨4, ![1, 8, 1, 222]⟩
abbrev S16x1792 : Shape := ⟨2, ![16, 1792]⟩
abbrev S16x222 : Shape := ⟨2, ![16, 222]⟩
abbrev S1x16x1x222 : Shape := ⟨4, ![1, 16, 1, 222]⟩
abbrev S32x1792 : Shape := ⟨2, ![32, 1792]⟩
abbrev S32x222 : Shape := ⟨2, ![32, 222]⟩
abbrev S1x32x1x222 : Shape := ⟨4, ![1, 32, 1, 222]⟩
abbrev S64x1792 : Shape := ⟨2, ![64, 1792]⟩
abbrev S64x222 : Shape := ⟨2, ![64, 222]⟩
abbrev S1x64x1x222 : Shape := ⟨4, ![1, 64, 1, 222]⟩

abbrev nBuf : Space → Nat
  | .hbm => 11
  | .vmem => 11
  | .smem => 0
  | _ => 0

abbrev bufTy : (tb : Table) → Fin (tcTables nBuf tb) → BufTy
  | .hbm, ⟨0, _⟩ => ⟨S4x96x224x224, .f32⟩
  | .hbm, ⟨1, _⟩ => ⟨S120x96x3x3, .f32⟩
  | .hbm, ⟨2, _⟩ => ⟨S120, .f32⟩
  | .hbm, ⟨3, _⟩ => ⟨S16x8, .f32⟩
  | .hbm, ⟨4, _⟩ => ⟨S32x16, .f32⟩
  | .hbm, ⟨5, _⟩ => ⟨S64x32, .f32⟩
  | .hbm, ⟨6, _⟩ => ⟨S4x96x50176, .f32⟩
  | .hbm, ⟨7, _⟩ => ⟨S3x3x120x96, .f32⟩
  | .hbm, ⟨8, _⟩ => ⟨S9x120x96, .f32⟩
  | .hbm, ⟨9, _⟩ => ⟨S120x1, .f32⟩
  | .hbm, ⟨10, _⟩ => ⟨S4x120x222x222, .f32⟩
  | .local _ .vmem, ⟨0, _⟩ => ⟨S1x96x1792, .f32⟩
  | .local _ .vmem, ⟨1, _⟩ => ⟨S1x96x1792, .f32⟩
  | .local _ .vmem, ⟨2, _⟩ => ⟨S1x96x896, .f32⟩
  | .local _ .vmem, ⟨3, _⟩ => ⟨S1x96x896, .f32⟩
  | .local _ .vmem, ⟨4, _⟩ => ⟨S9x120x96, .f32⟩
  | .local _ .vmem, ⟨5, _⟩ => ⟨S120x1, .f32⟩
  | .local _ .vmem, ⟨6, _⟩ => ⟨S16x8, .f32⟩
  | .local _ .vmem, ⟨7, _⟩ => ⟨S32x16, .f32⟩
  | .local _ .vmem, ⟨8, _⟩ => ⟨S64x32, .f32⟩
  | .local _ .vmem, ⟨9, _⟩ => ⟨S1x120x8x222, .f32⟩
  | .local _ .vmem, ⟨10, _⟩ => ⟨S1x120x8x222, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 28], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c55_i32 : BitVec 32 := 55#32
  let v2 : BitVec 32 := Scalar.minsi v1 c55_i32
  let c0_i32 : BitVec 32 := 0#32
  let c0_i32_1 : BitVec 32 := 0#32
  ![arg0.toNat, c0_i32.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x96x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S9x120x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S120x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x120x8x222 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x96x224x224 : Shape := ⟨4, ![4, 96, 224, 224]⟩
abbrev S120x96x3x3 : Shape := ⟨4, ![120, 96, 3, 3]⟩
abbrev S120 : Shape := ⟨1, ![120]⟩
abbrev S_ : Shape := ⟨0, ![]⟩
abbrev S4x120x222x222 : Shape := ⟨4, ![4, 120, 222, 222]⟩
abbrev S4x96x222x222 : Shape := ⟨4, ![4, 96, 222, 222]⟩
abbrev S120x96x1x1 : Shape := ⟨4, ![120, 96, 1, 1]⟩
abbrev S120x96 : Shape := ⟨2, ![120, 96]⟩
abbrev S120x4x222x222 : Shape := ⟨4, ![120, 4, 222, 222]⟩
abbrev S1x120x1x1 : Shape := ⟨4, ![1, 120, 1, 1]⟩
abbrev S4x8x222x222 : Shape := ⟨4, ![4, 8, 222, 222]⟩
abbrev S4x222x222x8 : Shape := ⟨4, ![4, 222, 222, 8]⟩
abbrev S4x222x222x2 : Shape := ⟨4, ![4, 222, 222, 2]⟩
abbrev S4 : Shape := ⟨1, ![4]⟩
abbrev S4x1x1x1 : Shape := ⟨4, ![4, 1, 1, 1]⟩
abbrev S222 : Shape := ⟨1, ![222]⟩
abbrev S1x222x1x1 : Shape := ⟨4, ![1, 222, 1, 1]⟩
abbrev S1x1x222x1 : Shape := ⟨4, ![1, 1, 222, 1]⟩
abbrev S4x222x222x2x1 : Shape := ⟨5, ![4, 222, 222, 2, 1]⟩
abbrev S4x222x222x2x4 : Shape := ⟨5, ![4, 222, 222, 2, 4]⟩
abbrev S4x16x222x222 : Shape := ⟨4, ![4, 16, 222, 222]⟩
abbrev S8x16 : Shape := ⟨2, ![8, 16]⟩
abbrev S16x4x222x222 : Shape := ⟨4, ![16, 4, 222, 222]⟩
abbrev S4x222x222x16 : Shape := ⟨4, ![4, 222, 222, 16]⟩
abbrev S4x222x222x4 : Shape := ⟨4, ![4, 222, 222, 4]⟩
abbrev S4x222x222x4x1 : Shape := ⟨5, ![4, 222, 222, 4, 1]⟩
abbrev S4x222x222x4x4 : Shape := ⟨5, ![4, 222, 222, 4, 4]⟩
abbrev S4x32x222x222 : Shape := ⟨4, ![4, 32, 222, 222]⟩
abbrev S16x32 : Shape := ⟨2, ![16, 32]⟩
abbrev S32x4x222x222 : Shape := ⟨4, ![32, 4, 222, 222]⟩
abbrev S4x222x222x32 : Shape := ⟨4, ![4, 222, 222, 32]⟩
abbrev S4x222x222x8x1 : Shape := ⟨5, ![4, 222, 222, 8, 1]⟩
abbrev S4x222x222x8x4 : Shape := ⟨5, ![4, 222, 222, 8, 4]⟩
abbrev S4x64x222x222 : Shape := ⟨4, ![4, 64, 222, 222]⟩
abbrev S32x64 : Shape := ⟨2, ![32, 64]⟩
abbrev S64x4x222x222 : Shape := ⟨4, ![64, 4, 222, 222]⟩
abbrev S4x222x222x64 : Shape := ⟨4, ![4, 222, 222, 64]⟩
abbrev S4x222x222x16x1 : Shape := ⟨5, ![4, 222, 222, 16, 1]⟩
abbrev S4x222x222x16x4 : Shape := ⟨5, ![4, 222, 222, 16, 4]⟩

abbrev nBuf : Space → Nat
  | .hbm => 372
  | .vmem => 0
  | .smem => 0
  | _ => 0

abbrev hbmTy0_0 (i : Nat) : BufTy := match i % 128 with
  | 0 => ⟨S4x96x224x224, .f32⟩
  | 1 => ⟨S120x96x3x3, .f32⟩
  | 2 => ⟨S120, .f32⟩
  | 3 => ⟨S_, .f32⟩
  | 4 => ⟨S4x120x222x222, .f32⟩
  | 5 => ⟨S4x96x222x222, .f32⟩
  | 6 => ⟨S120x96x1x1, .f32⟩
  | 7 => ⟨S120x96, .f32⟩
  | 8 => ⟨S120x4x222x222, .f32⟩
  | 9 => ⟨S4x120x222x222, .f32⟩
  | 10 => ⟨S4x120x222x222, .f32⟩
  | 11 => ⟨S4x96x222x222, .f32⟩
  | 12 => ⟨S120x96x1x1, .f32⟩
  | 13 => ⟨S120x96, .f32⟩
  | 14 => ⟨S120x4x222x222, .f32⟩
  | 15 => ⟨S4x120x222x222, .f32⟩
  | 16 => ⟨S4x120x222x222, .f32⟩
  | 17 => ⟨S4x96x222x222, .f32⟩
  | 18 => ⟨S120x96x1x1, .f32⟩
  | 19 => ⟨S120x96, .f32⟩
  | 20 => ⟨S120x4x222x222, .f32⟩
  | 21 => ⟨S4x120x222x222, .f32⟩
  | 22 => ⟨S4x120x222x222, .f32⟩
  | 23 => ⟨S4x96x222x222, .f32⟩
  | 24 => ⟨S120x96x1x1, .f32⟩
  | 25 => ⟨S120x96, .f32⟩
  | 26 => ⟨S120x4x222x222, .f32⟩
  | 27 => ⟨S4x120x222x222, .f32⟩
  | 28 => ⟨S4x120x222x222, .f32⟩
  | 29 => ⟨S4x96x222x222, .f32⟩
  | 30 => ⟨S120x96x1x1, .f32⟩
  | 31 => ⟨S120x96, .f32⟩
  | 32 => ⟨S120x4x222x222, .f32⟩
  | 33 => ⟨S4x120x222x222, .f32⟩
  | 34 => ⟨S4x120x222x222, .f32⟩
  | 35 => ⟨S4x96x222x222, .f32⟩
  | 36 => ⟨S120x96x1x1, .f32⟩
  | 37 => ⟨S120x96, .f32⟩
  | 38 => ⟨S120x4x222x222, .f32⟩
  | 39 => ⟨S4x120x222x222, .f32⟩
  | 40 => ⟨S4x120x222x222, .f32⟩
  | 41 => ⟨S4x96x222x222, .f32⟩
  | 42 => ⟨S120x96x1x1, .f32⟩
  | 43 => ⟨S120x96, .f32⟩
  | 44 => ⟨S120x4x222x222, .f32⟩
  | 45 => ⟨S4x120x222x222, .f32⟩
  | 46 => ⟨S4x120x222x222, .f32⟩
  | 47 => ⟨S4x96x222x222, .f32⟩
  | 48 => ⟨S120x96x1x1, .f32⟩
  | 49 => ⟨S120x96, .f32⟩
  | 50 => ⟨S120x4x222x222, .f32⟩
  | 51 => ⟨S4x120x222x222, .f32⟩
  | 52 => ⟨S4x120x222x222, .f32⟩
  | 53 => ⟨S4x96x222x222, .f32⟩
  | 54 => ⟨S120x96x1x1, .f32⟩
  | 55 => ⟨S120x96, .f32⟩
  | 56 => ⟨S120x4x222x222, .f32⟩
  | 57 => ⟨S4x120x222x222, .f32⟩
  | 58 => ⟨S4x120x222x222, .f32⟩
  | 59 => ⟨S1x120x1x1, .f32⟩
  | 60 => ⟨S4x120x222x222, .f32⟩
  | 61 => ⟨S4x120x222x222, .f32⟩
  | 62 => ⟨S4x8x222x222, .f32⟩
  | 63 => ⟨S4x222x222x8, .f32⟩
  | 64 => ⟨S4x222x222x8, .f32⟩
  | 65 => ⟨S4x222x222x2, .f32⟩
  | 66 => ⟨S4x222x222x2, .i32⟩
  | 67 => ⟨S_, .f32⟩
  | 68 => ⟨S4x222x222x8, .f32⟩
  | 69 => ⟨S4, .i32⟩
  | 70 => ⟨S4x1x1x1, .i32⟩
  | 71 => ⟨S222, .i32⟩
  | 72 => ⟨S1x222x1x1, .i32⟩
  | 73 => ⟨S222, .i32⟩
  | 74 => ⟨S1x1x222x1, .i32⟩
  | 75 => ⟨S_, .i32⟩
  | 76 => ⟨S4x1x1x1, .i32⟩
  | 77 => ⟨S4x1x1x1, .i1⟩
  | 78 => ⟨S_, .i32⟩
  | 79 => ⟨S4x1x1x1, .i32⟩
  | 80 => ⟨S4x1x1x1, .i32⟩
  | 81 => ⟨S4x1x1x1, .i32⟩
  | 82 => ⟨S_, .i32⟩
  | 83 => ⟨S1x222x1x1, .i32⟩
  | 84 => ⟨S1x222x1x1, .i1⟩
  | 85 => ⟨S_, .i32⟩
  | 86 => ⟨S1x222x1x1, .i32⟩
  | 87 => ⟨S1x222x1x1, .i32⟩
  | 88 => ⟨S1x222x1x1, .i32⟩
  | 89 => ⟨S_, .i32⟩
  | 90 => ⟨S1x1x222x1, .i32⟩
  | 91 => ⟨S1x1x222x1, .i1⟩
  | 92 => ⟨S_, .i32⟩
  | 93 => ⟨S1x1x222x1, .i32⟩
  | 94 => ⟨S1x1x222x1, .i32⟩
  | 95 => ⟨S1x1x222x1, .i32⟩
  | 96 => ⟨S_, .i32⟩
  | 97 => ⟨S4x222x222x2, .i32⟩
  | 98 => ⟨S4x222x222x2, .i1⟩
  | 99 => ⟨S_, .i32⟩
  | 100 => ⟨S4x222x222x2, .i32⟩
  | 101 => ⟨S4x222x222x2, .i32⟩
  | 102 => ⟨S4x222x222x2, .i32⟩
  | 103 => ⟨S4x222x222x2, .i32⟩
  | 104 => ⟨S4x222x222x2, .i32⟩
  | 105 => ⟨S4x222x222x2, .i32⟩
  | 106 => ⟨S4x222x222x2x1, .i32⟩
  | 107 => ⟨S4x222x222x2x1, .i32⟩
  | 108 => ⟨S4x222x222x2x1, .i32⟩
  | 109 => ⟨S4x222x222x2x1, .i32⟩
  | 110 => ⟨S4x222x222x2x4, .i32⟩
  | 111 => ⟨S4x222x222x8, .f32⟩
  | 112 => ⟨S_, .f32⟩
  | 113 => ⟨S4x222x222x8, .f32⟩
  | 114 => ⟨S4x222x222x8, .i1⟩
  | 115 => ⟨S4x222x222x8, .f32⟩
  | 116 => ⟨S4x222x222x8, .f32⟩
  | 117 => ⟨S4x8x222x222, .f32⟩
  | 118 => ⟨S_, .f32⟩
  | 119 => ⟨S4x8x222x222, .f32⟩
  | 120 => ⟨S4x8x222x222, .i1⟩
  | 121 => ⟨S4x8x222x222, .f32⟩
  | 122 => ⟨S4x16x222x222, .f32⟩
  | 123 => ⟨S8x16, .i32⟩
  | 124 => ⟨S8x16, .i32⟩
  | 125 => ⟨S_, .i32⟩
  | 126 => ⟨S8x16, .i32⟩
  | 127 => ⟨S8x16, .i32⟩
  | _ => ⟨S4x96x224x224, .f32⟩

abbrev hbmTy0_1 (i : Nat) : BufTy := match i % 128 with
  | 0 => ⟨S8x16, .i32⟩
  | 1 => ⟨S_, .i32⟩
  | 2 => ⟨S8x16, .i32⟩
  | 3 => ⟨S8x16, .i32⟩
  | 4 => ⟨S_, .i32⟩
  | 5 => ⟨S8x16, .i32⟩
  | 6 => ⟨S8x16, .i32⟩
  | 7 => ⟨S_, .i32⟩
  | 8 => ⟨S8x16, .i32⟩
  | 9 => ⟨S8x16, .i1⟩
  | 10 => ⟨S8x16, .f32⟩
  | 11 => ⟨S16x4x222x222, .f32⟩
  | 12 => ⟨S4x16x222x222, .f32⟩
  | 13 => ⟨S_, .f32⟩
  | 14 => ⟨S4x16x222x222, .f32⟩
  | 15 => ⟨S4x16x222x222, .i1⟩
  | 16 => ⟨S4x16x222x222, .f32⟩
  | 17 => ⟨S4x16x222x222, .f32⟩
  | 18 => ⟨S4x222x222x16, .f32⟩
  | 19 => ⟨S4x222x222x16, .f32⟩
  | 20 => ⟨S4x222x222x4, .f32⟩
  | 21 => ⟨S4x222x222x4, .i32⟩
  | 22 => ⟨S_, .f32⟩
  | 23 => ⟨S4x222x222x16, .f32⟩
  | 24 => ⟨S4, .i32⟩
  | 25 => ⟨S4x1x1x1, .i32⟩
  | 26 => ⟨S222, .i32⟩
  | 27 => ⟨S1x222x1x1, .i32⟩
  | 28 => ⟨S222, .i32⟩
  | 29 => ⟨S1x1x222x1, .i32⟩
  | 30 => ⟨S_, .i32⟩
  | 31 => ⟨S4x1x1x1, .i32⟩
  | 32 => ⟨S4x1x1x1, .i1⟩
  | 33 => ⟨S_, .i32⟩
  | 34 => ⟨S4x1x1x1, .i32⟩
  | 35 => ⟨S4x1x1x1, .i32⟩
  | 36 => ⟨S4x1x1x1, .i32⟩
  | 37 => ⟨S_, .i32⟩
  | 38 => ⟨S1x222x1x1, .i32⟩
  | 39 => ⟨S1x222x1x1, .i1⟩
  | 40 => ⟨S_, .i32⟩
  | 41 => ⟨S1x222x1x1, .i32⟩
  | 42 => ⟨S1x222x1x1, .i32⟩
  | 43 => ⟨S1x222x1x1, .i32⟩
  | 44 => ⟨S_, .i32⟩
  | 45 => ⟨S1x1x222x1, .i32⟩
  | 46 => ⟨S1x1x222x1, .i1⟩
  | 47 => ⟨S_, .i32⟩
  | 48 => ⟨S1x1x222x1, .i32⟩
  | 49 => ⟨S1x1x222x1, .i32⟩
  | 50 => ⟨S1x1x222x1, .i32⟩
  | 51 => ⟨S_, .i32⟩
  | 52 => ⟨S4x222x222x4, .i32⟩
  | 53 => ⟨S4x222x222x4, .i1⟩
  | 54 => ⟨S_, .i32⟩
  | 55 => ⟨S4x222x222x4, .i32⟩
  | 56 => ⟨S4x222x222x4, .i32⟩
  | 57 => ⟨S4x222x222x4, .i32⟩
  | 58 => ⟨S4x222x222x4, .i32⟩
  | 59 => ⟨S4x222x222x4, .i32⟩
  | 60 => ⟨S4x222x222x4, .i32⟩
  | 61 => ⟨S4x222x222x4x1, .i32⟩
  | 62 => ⟨S4x222x222x4x1, .i32⟩
  | 63 => ⟨S4x222x222x4x1, .i32⟩
  | 64 => ⟨S4x222x222x4x1, .i32⟩
  | 65 => ⟨S4x222x222x4x4, .i32⟩
  | 66 => ⟨S4x222x222x16, .f32⟩
  | 67 => ⟨S_, .f32⟩
  | 68 => ⟨S4x222x222x16, .f32⟩
  | 69 => ⟨S4x222x222x16, .i1⟩
  | 70 => ⟨S4x222x222x16, .f32⟩
  | 71 => ⟨S4x222x222x16, .f32⟩
  | 72 => ⟨S4x16x222x222, .f32⟩
  | 73 => ⟨S_, .f32⟩
  | 74 => ⟨S4x16x222x222, .f32⟩
  | 75 => ⟨S4x16x222x222, .i1⟩
  | 76 => ⟨S4x16x222x222, .f32⟩
  | 77 => ⟨S4x32x222x222, .f32⟩
  | 78 => ⟨S16x32, .i32⟩
  | 79 => ⟨S16x32, .i32⟩
  | 80 => ⟨S_, .i32⟩
  | 81 => ⟨S16x32, .i32⟩
  | 82 => ⟨S16x32, .i32⟩
  | 83 => ⟨S16x32, .i32⟩
  | 84 => ⟨S_, .i32⟩
  | 85 => ⟨S16x32, .i32⟩
  | 86 => ⟨S16x32, .i32⟩
  | 87 => ⟨S_, .i32⟩
  | 88 => ⟨S16x32, .i32⟩
  | 89 => ⟨S16x32, .i32⟩
  | 90 => ⟨S_, .i32⟩
  | 91 => ⟨S16x32, .i32⟩
  | 92 => ⟨S16x32, .i1⟩
  | 93 => ⟨S16x32, .f32⟩
  | 94 => ⟨S32x4x222x222, .f32⟩
  | 95 => ⟨S4x32x222x222, .f32⟩
  | 96 => ⟨S_, .f32⟩
  | 97 => ⟨S4x32x222x222, .f32⟩
  | 98 => ⟨S4x32x222x222, .i1⟩
  | 99 => ⟨S4x32x222x222, .f32⟩
  | 100 => ⟨S4x32x222x222, .f32⟩
  | 101 => ⟨S4x222x222x32, .f32⟩
  | 102 => ⟨S4x222x222x32, .f32⟩
  | 103 => ⟨S4x222x222x8, .f32⟩
  | 104 => ⟨S4x222x222x8, .i32⟩
  | 105 => ⟨S_, .f32⟩
  | 106 => ⟨S4x222x222x32, .f32⟩
  | 107 => ⟨S4, .i32⟩
  | 108 => ⟨S4x1x1x1, .i32⟩
  | 109 => ⟨S222, .i32⟩
  | 110 => ⟨S1x222x1x1, .i32⟩
  | 111 => ⟨S222, .i32⟩
  | 112 => ⟨S1x1x222x1, .i32⟩
  | 113 => ⟨S_, .i32⟩
  | 114 => ⟨S4x1x1x1, .i32⟩
  | 115 => ⟨S4x1x1x1, .i1⟩
  | 116 => ⟨S_, .i32⟩
  | 117 => ⟨S4x1x1x1, .i32⟩
  | 118 => ⟨S4x1x1x1, .i32⟩
  | 119 => ⟨S4x1x1x1, .i32⟩
  | 120 => ⟨S_, .i32⟩
  | 121 => ⟨S1x222x1x1, .i32⟩
  | 122 => ⟨S1x222x1x1, .i1⟩
  | 123 => ⟨S_, .i32⟩
  | 124 => ⟨S1x222x1x1, .i32⟩
  | 125 => ⟨S1x222x1x1, .i32⟩
  | 126 => ⟨S1x222x1x1, .i32⟩
  | 127 => ⟨S_, .i32⟩
  | _ => ⟨S4x96x224x224, .f32⟩

abbrev hbmTy0_2 (i : Nat) : BufTy := match i % 128 with
  | 0 => ⟨S1x1x222x1, .i32⟩
  | 1 => ⟨S1x1x222x1, .i1⟩
  | 2 => ⟨S_, .i32⟩
  | 3 => ⟨S1x1x222x1, .i32⟩
  | 4 => ⟨S1x1x222x1, .i32⟩
  | 5 => ⟨S1x1x222x1, .i32⟩
  | 6 => ⟨S_, .i32⟩
  | 7 => ⟨S4x222x222x8, .i32⟩
  | 8 => ⟨S4x222x222x8, .i1⟩
  | 9 => ⟨S_, .i32⟩
  | 10 => ⟨S4x222x222x8, .i32⟩
  | 11 => ⟨S4x222x222x8, .i32⟩
  | 12 => ⟨S4x222x222x8, .i32⟩
  | 13 => ⟨S4x222x222x8, .i32⟩
  | 14 => ⟨S4x222x222x8, .i32⟩
  | 15 => ⟨S4x222x222x8, .i32⟩
  | 16 => ⟨S4x222x222x8x1, .i32⟩
  | 17 => ⟨S4x222x222x8x1, .i32⟩
  | 18 => ⟨S4x222x222x8x1, .i32⟩
  | 19 => ⟨S4x222x222x8x1, .i32⟩
  | 20 => ⟨S4x222x222x8x4, .i32⟩
  | 21 => ⟨S4x222x222x32, .f32⟩
  | 22 => ⟨S_, .f32⟩
  | 23 => ⟨S4x222x222x32, .f32⟩
  | 24 => ⟨S4x222x222x32, .i1⟩
  | 25 => ⟨S4x222x222x32, .f32⟩
  | 26 => ⟨S4x222x222x32, .f32⟩
  | 27 => ⟨S4x32x222x222, .f32⟩
  | 28 => ⟨S_, .f32⟩
  | 29 => ⟨S4x32x222x222, .f32⟩
  | 30 => ⟨S4x32x222x222, .i1⟩
  | 31 => ⟨S4x32x222x222, .f32⟩
  | 32 => ⟨S4x64x222x222, .f32⟩
  | 33 => ⟨S32x64, .i32⟩
  | 34 => ⟨S32x64, .i32⟩
  | 35 => ⟨S_, .i32⟩
  | 36 => ⟨S32x64, .i32⟩
  | 37 => ⟨S32x64, .i32⟩
  | 38 => ⟨S32x64, .i32⟩
  | 39 => ⟨S_, .i32⟩
  | 40 => ⟨S32x64, .i32⟩
  | 41 => ⟨S32x64, .i32⟩
  | 42 => ⟨S_, .i32⟩
  | 43 => ⟨S32x64, .i32⟩
  | 44 => ⟨S32x64, .i32⟩
  | 45 => ⟨S_, .i32⟩
  | 46 => ⟨S32x64, .i32⟩
  | 47 => ⟨S32x64, .i1⟩
  | 48 => ⟨S32x64, .f32⟩
  | 49 => ⟨S64x4x222x222, .f32⟩
  | 50 => ⟨S4x64x222x222, .f32⟩
  | 51 => ⟨S_, .f32⟩
  | 52 => ⟨S4x64x222x222, .f32⟩
  | 53 => ⟨S4x64x222x222, .i1⟩
  | 54 => ⟨S4x64x222x222, .f32⟩
  | 55 => ⟨S4x64x222x222, .f32⟩
  | 56 => ⟨S4x222x222x64, .f32⟩
  | 57 => ⟨S4x222x222x64, .f32⟩
  | 58 => ⟨S4x222x222x16, .f32⟩
  | 59 => ⟨S4x222x222x16, .i32⟩
  | 60 => ⟨S_, .f32⟩
  | 61 => ⟨S4x222x222x64, .f32⟩
  | 62 => ⟨S4, .i32⟩
  | 63 => ⟨S4x1x1x1, .i32⟩
  | 64 => ⟨S222, .i32⟩
  | 65 => ⟨S1x222x1x1, .i32⟩
  | 66 => ⟨S222, .i32⟩
  | 67 => ⟨S1x1x222x1, .i32⟩
  | 68 => ⟨S_, .i32⟩
  | 69 => ⟨S4x1x1x1, .i32⟩
  | 70 => ⟨S4x1x1x1, .i1⟩
  | 71 => ⟨S_, .i32⟩
  | 72 => ⟨S4x1x1x1, .i32⟩
  | 73 => ⟨S4x1x1x1, .i32⟩
  | 74 => ⟨S4x1x1x1, .i32⟩
  | 75 => ⟨S_, .i32⟩
  | 76 => ⟨S1x222x1x1, .i32⟩
  | 77 => ⟨S1x222x1x1, .i1⟩
  | 78 => ⟨S_, .i32⟩
  | 79 => ⟨S1x222x1x1, .i32⟩
  | 80 => ⟨S1x222x1x1, .i32⟩
  | 81 => ⟨S1x222x1x1, .i32⟩
  | 82 => ⟨S_, .i32⟩
  | 83 => ⟨S1x1x222x1, .i32⟩
  | 84 => ⟨S1x1x222x1, .i1⟩
  | 85 => ⟨S_, .i32⟩
  | 86 => ⟨S1x1x222x1, .i32⟩
  | 87 => ⟨S1x1x222x1, .i32⟩
  | 88 => ⟨S1x1x222x1, .i32⟩
  | 89 => ⟨S_, .i32⟩
  | 90 => ⟨S4x222x222x16, .i32⟩
  | 91 => ⟨S4x222x222x16, .i1⟩
  | 92 => ⟨S_, .i32⟩
  | 93 => ⟨S4x222x222x16, .i32⟩
  | 94 => ⟨S4x222x222x16, .i32⟩
  | 95 => ⟨S4x222x222x16, .i32⟩
  | 96 => ⟨S4x222x222x16, .i32⟩
  | 97 => ⟨S4x222x222x16, .i32⟩
  | 98 => ⟨S4x222x222x16, .i32⟩
  | 99 => ⟨S4x222x222x16x1, .i32⟩
  | 100 => ⟨S4x222x222x16x1, .i32⟩
  | 101 => ⟨S4x222x222x16x1, .i32⟩
  | 102 => ⟨S4x222x222x16x1, .i32⟩
  | 103 => ⟨S4x222x222x16x4, .i32⟩
  | 104 => ⟨S4x222x222x64, .f32⟩
  | 105 => ⟨S_, .f32⟩
  | 106 => ⟨S4x222x222x64, .f32⟩
  | 107 => ⟨S4x222x222x64, .i1⟩
  | 108 => ⟨S4x222x222x64, .f32⟩
  | 109 => ⟨S4x222x222x64, .f32⟩
  | 110 => ⟨S4x64x222x222, .f32⟩
  | 111 => ⟨S_, .f32⟩
  | 112 => ⟨S4x64x222x222, .f32⟩
  | 113 => ⟨S4x64x222x222, .i1⟩
  | 114 => ⟨S4x64x222x222, .f32⟩
  | 115 => ⟨S4x120x222x222, .f32⟩
  | _ => ⟨S4x96x224x224, .f32⟩

abbrev hbmTy (i : Nat) : BufTy := match i / 128 with
  | 0 => hbmTy0_0 i
  | 1 => hbmTy0_1 i
  | 2 => hbmTy0_2 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_values : Ref sig .tc := ⟨.hbm, 65, rfl⟩
abbrev main_indices : Ref sig .tc := ⟨.hbm, 66, rfl⟩
abbrev main_cst_0 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_c : Ref sig .tc := ⟨.hbm, 75, rfl⟩
abbrev main_v68 : Ref sig .tc := ⟨.hbm, 76, rfl⟩
abbrev main_v69 : Ref sig .tc := ⟨.hbm, 77, rfl⟩
abbrev main_c_1 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_c_2 : Ref sig .tc := ⟨.hbm, 82, rfl⟩
abbrev main_v73 : Ref sig .tc := ⟨.hbm, 83, rfl⟩
abbrev main_v74 : Ref sig .tc := ⟨.hbm, 84, rfl⟩
abbrev main_c_3 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_c_4 : Ref sig .tc := ⟨.hbm, 89, rfl⟩
abbrev main_v78 : Ref sig .tc := ⟨.hbm, 90, rfl⟩
abbrev main_v79 : Ref sig .tc := ⟨.hbm, 91, rfl⟩
abbrev main_c_5 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_c_6 : Ref sig .tc := ⟨.hbm, 96, rfl⟩
abbrev main_v83 : Ref sig .tc := ⟨.hbm, 97, rfl⟩
abbrev main_v84 : Ref sig .tc := ⟨.hbm, 98, rfl⟩
abbrev main_c_7 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_cst_8 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_9 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_c_10 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_c_11 : Ref sig .tc := ⟨.hbm, 129, rfl⟩
abbrev main_v111 : Ref sig .tc := ⟨.hbm, 130, rfl⟩
abbrev main_v112 : Ref sig .tc := ⟨.hbm, 131, rfl⟩
abbrev main_c_12 : Ref sig .tc := ⟨.hbm, 132, rfl⟩
abbrev main_v113 : Ref sig .tc := ⟨.hbm, 133, rfl⟩
abbrev main_v114 : Ref sig .tc := ⟨.hbm, 134, rfl⟩
abbrev main_c_13 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_cst_14 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_values_15 : Ref sig .tc := ⟨.hbm, 148, rfl⟩
abbrev main_indices_16 : Ref sig .tc := ⟨.hbm, 149, rfl⟩
abbrev main_cst_17 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_c_18 : Ref sig .tc := ⟨.hbm, 158, rfl⟩
abbrev main_v133 : Ref sig .tc := ⟨.hbm, 159, rfl⟩
abbrev main_v134 : Ref sig .tc := ⟨.hbm, 160, rfl⟩
abbrev main_c_19 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_c_20 : Ref sig .tc := ⟨.hbm, 165, rfl⟩
abbrev main_v138 : Ref sig .tc := ⟨.hbm, 166, rfl⟩
abbrev main_v139 : Ref sig .tc := ⟨.hbm, 167, rfl⟩
abbrev main_c_21 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_c_22 : Ref sig .tc := ⟨.hbm, 172, rfl⟩
abbrev main_v143 : Ref sig .tc := ⟨.hbm, 173, rfl⟩
abbrev main_v144 : Ref sig .tc := ⟨.hbm, 174, rfl⟩
abbrev main_c_23 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_c_24 : Ref sig .tc := ⟨.hbm, 179, rfl⟩
abbrev main_v148 : Ref sig .tc := ⟨.hbm, 180, rfl⟩
abbrev main_v149 : Ref sig .tc := ⟨.hbm, 181, rfl⟩
abbrev main_c_25 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_cst_26 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_cst_27 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_c_28 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_c_29 : Ref sig .tc := ⟨.hbm, 212, rfl⟩
abbrev main_v176 : Ref sig .tc := ⟨.hbm, 213, rfl⟩
abbrev main_v177 : Ref sig .tc := ⟨.hbm, 214, rfl⟩
abbrev main_c_30 : Ref sig .tc := ⟨.hbm, 215, rfl⟩
abbrev main_v178 : Ref sig .tc := ⟨.hbm, 216, rfl⟩
abbrev main_v179 : Ref sig .tc := ⟨.hbm, 217, rfl⟩
abbrev main_c_31 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_cst_32 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_values_33 : Ref sig .tc := ⟨.hbm, 231, rfl⟩
abbrev main_indices_34 : Ref sig .tc := ⟨.hbm, 232, rfl⟩
abbrev main_cst_35 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_c_36 : Ref sig .tc := ⟨.hbm, 241, rfl⟩
abbrev main_v198 : Ref sig .tc := ⟨.hbm, 242, rfl⟩
abbrev main_v199 : Ref sig .tc := ⟨.hbm, 243, rfl⟩
abbrev main_c_37 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_c_38 : Ref sig .tc := ⟨.hbm, 248, rfl⟩
abbrev main_v203 : Ref sig .tc := ⟨.hbm, 249, rfl⟩
abbrev main_v204 : Ref sig .tc := ⟨.hbm, 250, rfl⟩
abbrev main_c_39 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_c_40 : Ref sig .tc := ⟨.hbm, 255, rfl⟩
abbrev main_v208 : Ref sig .tc := ⟨.hbm, 256, rfl⟩
abbrev main_v209 : Ref sig .tc := ⟨.hbm, 257, rfl⟩
abbrev main_c_41 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_c_42 : Ref sig .tc := ⟨.hbm, 262, rfl⟩
abbrev main_v213 : Ref sig .tc := ⟨.hbm, 263, rfl⟩
abbrev main_v214 : Ref sig .tc := ⟨.hbm, 264, rfl⟩
abbrev main_c_43 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_cst_44 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_cst_45 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_c_46 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_c_47 : Ref sig .tc := ⟨.hbm, 295, rfl⟩
abbrev main_v241 : Ref sig .tc := ⟨.hbm, 296, rfl⟩
abbrev main_v242 : Ref sig .tc := ⟨.hbm, 297, rfl⟩
abbrev main_c_48 : Ref sig .tc := ⟨.hbm, 298, rfl⟩
abbrev main_v243 : Ref sig .tc := ⟨.hbm, 299, rfl⟩
abbrev main_v244 : Ref sig .tc := ⟨.hbm, 300, rfl⟩
abbrev main_c_49 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_cst_50 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_values_51 : Ref sig .tc := ⟨.hbm, 314, rfl⟩
abbrev main_indices_52 : Ref sig .tc := ⟨.hbm, 315, rfl⟩
abbrev main_cst_53 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_c_54 : Ref sig .tc := ⟨.hbm, 324, rfl⟩
abbrev main_v263 : Ref sig .tc := ⟨.hbm, 325, rfl⟩
abbrev main_v264 : Ref sig .tc := ⟨.hbm, 326, rfl⟩
abbrev main_c_55 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_c_56 : Ref sig .tc := ⟨.hbm, 331, rfl⟩
abbrev main_v268 : Ref sig .tc := ⟨.hbm, 332, rfl⟩
abbrev main_v269 : Ref sig .tc := ⟨.hbm, 333, rfl⟩
abbrev main_c_57 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_c_58 : Ref sig .tc := ⟨.hbm, 338, rfl⟩
abbrev main_v273 : Ref sig .tc := ⟨.hbm, 339, rfl⟩
abbrev main_v274 : Ref sig .tc := ⟨.hbm, 340, rfl⟩
abbrev main_c_59 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_c_60 : Ref sig .tc := ⟨.hbm, 345, rfl⟩
abbrev main_v278 : Ref sig .tc := ⟨.hbm, 346, rfl⟩
abbrev main_v279 : Ref sig .tc := ⟨.hbm, 347, rfl⟩
abbrev main_c_61 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_cst_62 : Ref sig .tc := ⟨.hbm, 361, rfl⟩
abbrev main_v292 : Ref sig .tc := ⟨.hbm, 362, rfl⟩
abbrev main_v293 : Ref sig .tc := ⟨.hbm, 363, rfl⟩
abbrev main_v294 : Ref sig .tc := ⟨.hbm, 364, rfl⟩
abbrev main_v295 : Ref sig .tc := ⟨.hbm, 365, rfl⟩
abbrev main_v296 : Ref sig .tc := ⟨.hbm, 366, rfl⟩
abbrev main_cst_63 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩

abbrev nD : Nat := 1
abbrev τ : Topo := Topo.v7x

variable {F : FTy → Type} [FloatOps F]
-- ==== Proof.Rank.lean ====
/-
  RANK AMONG n VALUES, LARGEST FIRST, EQUAL VALUES IN POSITION ORDER.
  The order `Before` in which a stable descending sort lists positions, the rank it gives each position, the one round of
  "take the largest, smallest position first" that a repeated maximum makes, and the stable sort's permutation as the inverse of rank.
-/
module

public import Idealize.ShloMosaic.Lib.SortFacts

@[expose] public section

namespace Cert.Proof.Rank

open Idealize Idealize.ShloMosaic

variable {α : Type} [LinearOrder α] {n : Nat}

/-- Position `j` comes before position `i`: its value is larger, or the values are equal and `j` is the smaller position. -/
def Before (v : Fin n → α) (j i : Fin n) : Prop := v i < v j ∨ (v j = v i ∧ j < i)

/-- Whether one position comes before another is decided classically. -/
noncomputable instance (v : Fin n → α) (j i : Fin n) : Decidable (Before v j i) := Classical.propDecidable _

/-- How many positions come before `i`. -/
noncomputable def rank (v : Fin n → α) (i : Fin n) : Nat := (Finset.univ.filter fun j => Before v j i).card

/-- No position comes before itself. -/
theorem before_irrefl (v : Fin n → α) (i : Fin n) : ¬ Before v i i := by
  rintro (h | ⟨_, h⟩) <;> exact lt_irrefl _ h

/-- Coming before is transitive. -/
theorem before_trans (v : Fin n → α) {a b c : Fin n} (h : Before v a b) (h' : Before v b c) : Before v a c := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

/-- Of two different positions one comes before the other. -/
theorem before_total (v : Fin n → α) {a b : Fin n} (h : a ≠ b) : Before v a b ∨ Before v b a := by
  rcases lt_trichotomy (v a) (v b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- An earlier position has a smaller rank. -/
theorem rank_lt_of_before (v : Fin n → α) {a b : Fin n} (h : Before v a b) : rank v a < rank v b := by
  refine Finset.card_lt_card (Finset.ssubset_iff_of_subset ?_ |>.2 ⟨a, ?_, ?_⟩)
  · intro c hc
    simp only [Finset.mem_filter, Finset.mem_univ, true_and] at hc ⊢
    exact before_trans v hc h
  · simpa using h
  · simpa using before_irrefl v a

/-- Different positions have different ranks. -/
theorem rank_injective (v : Fin n → α) : Function.Injective (rank v) := by
  intro a b h
  by_contra hab
  rcases before_total v hab with h1 | h1 <;> have := rank_lt_of_before v h1 <;> omega

/-- A rank is below the number of positions. -/
theorem rank_lt (v : Fin n → α) (i : Fin n) : rank v i < n := by
  have : rank v i < (Finset.univ : Finset (Fin n)).card :=
    Finset.card_lt_card (Finset.ssubset_iff_of_subset (Finset.subset_univ _) |>.2
      ⟨i, Finset.mem_univ _, by simpa using before_irrefl v i⟩)
  simpa using this

/-- Every number below `n` is some position's rank. -/
theorem exists_rank (v : Fin n → α) {t : Nat} (ht : t < n) : ∃ p, rank v p = t := by
  have hs : Function.Surjective fun i : Fin n => (⟨rank v i, rank_lt v i⟩ : Fin n) :=
    Finite.injective_iff_surjective.1 fun a b h => rank_injective v (by simpa using h)
  obtain ⟨p, hp⟩ := hs ⟨t, ht⟩
  exact ⟨p, by simpa using hp⟩

/-! ## One round of the repeated maximum -/

/-- The values after `t` rounds: the positions of the first `t` ranks hold the mark `m`. -/
noncomputable def keyAfter (v : Fin n → α) (m : α) (t : Nat) (i : Fin n) : α := if rank v i < t then m else v i

/-- With a mark below every value, the position of rank `t` holds the largest value left after `t` rounds. -/
theorem keyAfter_le (v : Fin n → α) (m : α) (hm : ∀ i, m < v i) {t : Nat} {p : Fin n} (hp : rank v p = t) (i : Fin n) :
    keyAfter v m t i ≤ keyAfter v m t p := by
  unfold keyAfter
  rw [if_neg (show ¬ rank v p < t by omega)]
  split
  · exact (hm p).le
  · rename_i h
    by_contra hlt
    exact h (hp ▸ rank_lt_of_before v (Or.inl (not_le.1 hlt)))

/-- … and is the first of the positions that hold it. -/
theorem le_of_keyAfter_eq (v : Fin n → α) (m : α) (hm : ∀ i, m < v i) {t : Nat} {p : Fin n} (hp : rank v p = t) (i : Fin n)
    (he : keyAfter v m t i = keyAfter v m t p) : p ≤ i := by
  unfold keyAfter at he
  rw [if_neg (show ¬ rank v p < t by omega)] at he
  split at he
  · exact absurd he (hm p).ne
  · rename_i h
    by_contra hlt
    exact h (hp ▸ rank_lt_of_before v (Or.inr ⟨he, not_le.1 hlt⟩))

/-- Marking the position of rank `t` gives the values after `t + 1` rounds. -/
theorem keyAfter_succ (v : Fin n → α) (m : α) {t : Nat} {p : Fin n} (hp : rank v p = t) (i : Fin n) :
    (if i = p then m else keyAfter v m t i) = keyAfter v m (t + 1) i := by
  unfold keyAfter
  by_cases h : i = p
  · rw [if_pos h, if_pos (by rw [h]; omega)]
  · rw [if_neg h]
    have : rank v i ≠ t := fun h' => h (rank_injective v (h'.trans hp.symm))
    by_cases h1 : rank v i < t
    · rw [if_pos h1, if_pos (by omega)]
    · rw [if_neg h1, if_neg (by omega)]

/-! ## The stable sort -/

/-- Inserting a position smaller than all of a list in order keeps the list in order. -/
theorem pairwise_insert (v : Fin n → α) (R : Fin n → Fin n → Bool) (hR : ∀ a b, R a b = true ↔ v b < v a) (a : Fin n) :
    ∀ l : List (Fin n), (∀ c ∈ l, a < c) → l.Pairwise (Before v) → (insertBefore R a l).Pairwise (Before v)
  | [], _, _ => List.pairwise_singleton _ _
  | b :: l, ha, hl => by
    have hl' := List.pairwise_cons.1 hl
    unfold insertBefore
    split
    · rename_i h
      refine List.pairwise_cons.2 ⟨fun c hc => ?_, pairwise_insert v R hR a l (fun c hc => ha c (List.mem_cons_of_mem _ hc)) hl'.2⟩
      rcases List.mem_cons.1 ((perm_insertBefore R a l).mem_iff.1 hc) with rfl | hc'
      · exact Or.inl ((hR _ _).1 h)
      · exact hl'.1 c hc'
    · rename_i h
      have hab : Before v a b := by
        have h1 : v b ≤ v a := not_lt.1 fun h2 => h ((hR _ _).2 h2)
        rcases h1.lt_or_eq with h2 | h2
        · exact Or.inl h2
        · exact Or.inr ⟨h2.symm, ha b List.mem_cons_self⟩
      refine List.pairwise_cons.2 ⟨fun c hc => ?_, hl⟩
      rcases List.mem_cons.1 hc with rfl | hc'
      · exact hab
      · exact before_trans v hab (hl'.1 c hc')

/-- A stable sort of increasing positions by "larger value" lists them in the order `Before`. -/
theorem pairwise_sort (v : Fin n → α) (R : Fin n → Fin n → Bool) (hR : ∀ a b, R a b = true ↔ v b < v a) :
    ∀ l : List (Fin n), l.Pairwise (· < ·) → (stableSort R l).Pairwise (Before v)
  | [], _ => List.Pairwise.nil
  | a :: l, hl => by
    have hl' := List.pairwise_cons.1 hl
    unfold stableSort
    exact pairwise_insert v R hR a _ (fun c hc => hl'.1 c ((perm_stableSort R l).mem_iff.1 hc)) (pairwise_sort v R hR l hl'.2)

/-- The position that the stable descending sort puts at place `j` has rank `j`. -/
theorem rank_sortedFrom (v : Fin n → α) (R : Fin n → Fin n → Bool) (hR : ∀ a b, R a b = true ↔ v b < v a) (j : Fin n) :
    rank v (sortedFrom R j) = j.val := by
  have hp : ∀ a b : Fin n, a < b → Before v (sortedFrom R a) (sortedFrom R b) := fun a b hab =>
    List.pairwise_iff_get.1 (pairwise_sort v R hR _ (List.pairwise_lt_finRange n)) _ _ hab
  have hs : (Finset.univ.filter fun i => Before v i (sortedFrom R j)) = (Finset.Iio j).image (sortedFrom R) := by
    ext i
    obtain ⟨a, rfl⟩ := sortedFrom_surjective R i
    simp only [Finset.mem_filter, Finset.mem_univ, true_and, Finset.mem_image, Finset.mem_Iio]
    constructor
    · intro h
      refine ⟨a, ?_, rfl⟩
      by_contra hn
      rcases (not_lt.1 hn).lt_or_eq with h1 | h1
      · exact before_irrefl v _ (before_trans v h (hp _ _ h1))
      · exact before_irrefl v _ (h1 ▸ h)
    · rintro ⟨b, hb, he⟩
      exact he ▸ hp b j hb
  unfold rank
  rw [hs, Finset.card_image_of_injective _ (sortedFrom_injective R), Fin.card_Iio]

end Cert.Proof.Rank
-- ==== Proof.Spec.lean ====
/-
  THE COLUMN. Both programs compute, at every pixel of every image, one function of the 120 convolution results there. This module states that
  function over the extended reals: the convolution as nine tap sums, then four levels of "keep the k largest magnitudes", each level above the
  first multiplied by a gate that is one where an element linked to it survived one level below.
-/
module

public import proofs.«01_k».proof.Proof.Rank
public import Idealize.ShloMosaic.Lib.IdealHost
public import Idealize.ShloMosaic.Lib.ValueIdx
public import Idealize.ShloMosaic.Lib.WordCmp
public import Idealize.ShloMosaic.PureOps.Ideal.Laws

@[expose] public section

set_option maxRecDepth 16384

noncomputable section

namespace Cert.Proof.Spec

open Idealize Idealize.ShloMosaic Idealize.ShloMosaic.ValueIdx

/-- The magnitude of an extended real. -/
def mag (v : EReal) : EReal := max v (-v)

/-- A magnitude is never negative. -/
theorem mag_nonneg (v : EReal) : 0 ≤ mag v := by
  unfold mag
  rcases le_total 0 v with h | h
  · exact le_max_of_le_left h
  · exact le_max_of_le_right (EReal.neg_nonneg.mpr h)

/-- Keep the entries whose magnitude ranks among the `k` largest (ties to the earlier entry); the others become zero. -/
def keep {n : Nat} (k : Nat) (a : Fin n → EReal) (i : Fin n) : EReal :=
  if Rank.rank (fun j => mag (a j)) i < k then a i else 0

/-- One where the value is not zero. -/
def flag (v : EReal) : EReal := if v ≠ 0 then 1 else 0

/-- The link from atom `j` of a level of `na` to atom `i` of a level of `nb`: four successors of `2 j`, cyclically. -/
def link (na nb : Nat) (i : Fin nb) (j : Fin na) : EReal := if (i.val + nb - 2 * j.val) % nb < 4 then 1 else 0

/-- One where some surviving atom of the level below is linked to atom `i`. -/
def gate {na nb : Nat} (m : Fin na → EReal) (i : Fin nb) : EReal := if 0 < ∑ j, link na nb i j * flag (m j) then 1 else 0

/-- The first level's atoms. -/
def l0 (v : Fin 120 → EReal) : Fin 8 → EReal := keep 2 fun i => v ⟨0 + i.val, by omega⟩
/-- The second level's atoms. -/
def l1 (v : Fin 120 → EReal) : Fin 16 → EReal := keep 4 fun i => v ⟨8 + i.val, by omega⟩ * gate (l0 v) i
/-- The third level's atoms. -/
def l2 (v : Fin 120 → EReal) : Fin 32 → EReal := keep 8 fun i => v ⟨24 + i.val, by omega⟩ * gate (l1 v) i
/-- The fourth level's atoms. -/
def l3 (v : Fin 120 → EReal) : Fin 64 → EReal := keep 16 fun i => v ⟨56 + i.val, by omega⟩ * gate (l2 v) i

/-- The four levels one after another. -/
def out (v : Fin 120 → EReal) (o : Fin 120) : EReal :=
  if h0 : o.val < 8 then l0 v ⟨o.val, h0⟩
  else if h1 : o.val < 24 then l1 v ⟨o.val - 8, by omega⟩
  else if h2 : o.val < 56 then l2 v ⟨o.val - 24, by omega⟩
  else l3 v ⟨o.val - 56, by omega⟩

/-- One tap of the convolution: the channel sum at a displacement. -/
def tap (x : (⟨4, ![4, 96, 224, 224]⟩ : Shape).Idx → EReal) (W : (⟨4, ![120, 96, 3, 3]⟩ : Shape).Idx → EReal) (dy dx : Fin 3) (b : Fin 4) (r c : Fin 222) (o : Fin 120) : EReal :=
  ∑ k : Fin 96, W (ix4 o k dy dx) * x (ix4 b k ⟨r.val + dy.val, by omega⟩ ⟨c.val + dx.val, by omega⟩)

/-- The convolution at a pixel: nine taps added from zero in row order, then the bias. -/
def act (x : (⟨4, ![4, 96, 224, 224]⟩ : Shape).Idx → EReal) (W : (⟨4, ![120, 96, 3, 3]⟩ : Shape).Idx → EReal) (bias : (⟨1, ![120]⟩ : Shape).Idx → EReal)
    (b : Fin 4) (r c : Fin 222) (o : Fin 120) : EReal :=
  0 + tap x W 0 0 b r c o + tap x W 0 1 b r c o + tap x W 0 2 b r c o + tap x W 1 0 b r c o + tap x W 1 1 b r c o
    + tap x W 1 2 b r c o + tap x W 2 0 b r c o + tap x W 2 1 b r c o + tap x W 2 2 b r c o + bias (ix1 o)

/-- A comparison "not equal" as a word, widened and read as a real: the flag. -/
theorem flag_word (v : EReal) : ((((BitVec.ofBool (decide (v ≠ 0))).toNat : ℝ)) : EReal) = flag v := by
  unfold flag
  by_cases h : v ≠ 0
  · rw [decide_eq_true h, if_pos h]; simp
  · rw [decide_eq_false h, if_neg h]; simp

/-- A comparison as a word read as a real: one where it holds. -/
theorem bit_word (p : Prop) [Decidable p] : ((((BitVec.ofBool (decide p)).toNat : ℝ)) : EReal) = if p then 1 else 0 := by
  by_cases h : p
  · rw [decide_eq_true h, if_pos h]; simp
  · rw [decide_eq_false h, if_neg h]; simp

/-- A comparison as a word, widened without sign, read as a signed real: one where it holds. -/
theorem wide_bit_word (p : Prop) [Decidable p] :
    (((((BitVec.ofBool (decide p)).setWidth 32).toInt : ℝ)) : EReal) = if p then 1 else 0 := by
  by_cases h : p
  · rw [decide_eq_true h, if_pos h]; simp
  · rw [decide_eq_false h, if_neg h]; simp

/-- The float pattern of minus one reads as minus one. -/
theorem ofBits_neg_one : Ideal.ofBits .f32 0xBF800000#32 = ((-(1 : ℝ) : ℝ) : EReal) := by
  simp [Ideal.ofBits, Ideal.ieee, -EReal.coe_mul, -EReal.coe_neg]; norm_num

/-- The kernel's mark lies below every magnitude. -/
theorem mark_lt (v : EReal) : Ideal.ofBits .f32 0xBF800000#32 < mag v := by
  refine lt_of_lt_of_le ?_ (mag_nonneg v)
  rw [ofBits_neg_one]
  exact EReal.coe_neg'.mpr (by norm_num)

/-- The reference's fill lies below every magnitude. -/
theorem fill_lt (v : EReal) : Ideal.ofBits .f32 0xC479FF5C#32 < mag v := by
  refine lt_of_lt_of_le ?_ (mag_nonneg v)
  simp [Ideal.ofBits, Ideal.ieee, -EReal.coe_mul, -EReal.coe_neg]

end Cert.Proof.Spec
-- ==== Proof.KernelTables.lean ====
/-
  THE CONNECTION TABLES. The kernel's three tables of literals hold the links between consecutive levels.
-/
module

public import proofs.«01_k».proof.Proof.Spec
public import proofs.«01_k».proof.Proof.Gen.KernelIdeal

@[expose] public section

set_option maxRecDepth 16384

noncomputable section

namespace Cert.Proof.KernelTables

open Idealize Idealize.ShloMosaic Idealize.ShloMosaic.ValueIdx Cert.KernelIdeal Cert.KernelIdeal.Gen

/-- A link as a float pattern. -/
def word (na nb i j : Nat) : BitVec 32 := if (i + nb - 2 * j) % nb < 4 then 0x3F800000#32 else 0x00000000#32

/-- The pattern of a link reads as the link. -/
theorem word_apply {na nb : Nat} (i : Fin nb) (j : Fin na) : Ideal.ofBits .f32 (word na nb i.val j.val) = Spec.link na nb i j := by
  unfold word Spec.link
  split
  · simp [Ideal.ofBits, Ideal.ieee, -EReal.coe_mul, -EReal.coe_neg]; norm_num
  · exact Ideal.ofBits_zero_f32

/-- The patterns of table 0. -/
theorem lit0_word : ∀ (i : Fin 16) (j : Fin 8), lit0 ⟨i.val * 8 + j.val, by omega⟩ = word 8 16 i.val j.val := by decide +kernel
/-- Table 0 holds the links. -/
theorem table0 (i : Fin 16) (j : Fin 8) : FloatOps.ofBits (F := Ideal) .f32 (lit0 (S16x8.rowMajor (ix2 i j))) = Spec.link 8 16 i j := by
  have e : S16x8.rowMajor (ix2 i j) = (⟨i.val * 8 + j.val, by omega⟩ : Fin 128) := Fin.ext (Shape.rowMajor_val_two _)
  rw [e, lit0_word]
  exact word_apply i j

/-- The patterns of table 1. -/
theorem lit1_word : ∀ (i : Fin 32) (j : Fin 16), lit1 ⟨i.val * 16 + j.val, by omega⟩ = word 16 32 i.val j.val := by decide +kernel
/-- Table 1 holds the links. -/
theorem table1 (i : Fin 32) (j : Fin 16) : FloatOps.ofBits (F := Ideal) .f32 (lit1 (S32x16.rowMajor (ix2 i j))) = Spec.link 16 32 i j := by
  have e : S32x16.rowMajor (ix2 i j) = (⟨i.val * 16 + j.val, by omega⟩ : Fin 512) := Fin.ext (Shape.rowMajor_val_two _)
  rw [e, lit1_word]
  exact word_apply i j

/-- The patterns of table 2. -/
theorem lit2_word : ∀ (i : Fin 64) (j : Fin 32), lit2 ⟨i.val * 32 + j.val, by omega⟩ = word 32 64 i.val j.val := by decide +kernel
/-- Table 2 holds the links. -/
theorem table2 (i : Fin 64) (j : Fin 32) : FloatOps.ofBits (F := Ideal) .f32 (lit2 (S64x32.rowMajor (ix2 i j))) = Spec.link 32 64 i j := by
  have e : S64x32.rowMajor (ix2 i j) = (⟨i.val * 32 + j.val, by omega⟩ : Fin 2048) := Fin.ext (Shape.rowMajor_val_two _)
  rw [e, lit2_word]
  exact word_apply i j

end Cert.Proof.KernelTables
end
-- ==== Proof.KernelRounds.lean ====
/-
  THE KERNEL'S ROUNDS, once for every level. A level of `N` atoms is a block of `N` rows, one lane a pixel. A round takes every lane's largest key,
  marks the first row holding it and writes a value below every magnitude over that key; after `k` rounds the marked rows keep their value and the
  others become zero. Here the printed operations of a round are named as functions of the block, and read lane by lane at the extended reals.
-/
module

public import proofs.«01_k».proof.Proof.Spec
public import Idealize.ShloMosaic.PureOps.Reduce
public import Idealize.ShloMosaic.Lib.ValueLayout
public import Idealize.ShloMosaic.Lib.Pipeline.Value

@[expose] public section

set_option maxRecDepth 16384

noncomputable section

namespace Cert.Proof.KernelRounds

open Idealize Idealize.ShloMosaic Idealize.ShloMosaic.ValueIdx

/-- A level's block: `N` rows of 1792 lanes. -/
abbrev sB (N : Nat) : Shape := ⟨2, ![N, 1792]⟩
/-- One value a lane. -/
abbrev sV : Shape := ⟨1, ![1792]⟩
/-- One value a lane, as a block of one row. -/
abbrev sR : Shape := ⟨2, ![1, 1792]⟩

/-- What the operations of a round ask of the shapes. -/
structure Sides (N : Nat) : Prop where
  red : (sB N).Reduces [0] sV
  cast : sV.ShapeCasts sR
  down : sR.Broadcasts (sB N)
  rows : (sB N).Iotas .tc 32 [0]

variable {N : Nat} (hs : Sides N)

section Text
variable {F : FTy → Type} [FloatOps F]

/-- Every lane's largest key. -/
def top (v : FVec F (sB N) .f32) : FVec F sV .f32 := multiReduction .maximumf [0] sV v 0xFF800000#32 hs.red (.inl rfl) rfl
/-- The same as a row. -/
def topRow (v : FVec F (sB N) .f32) : FVec F sR .f32 := shapeCast sR (top hs v) hs.cast
/-- Whether a key is its lane's largest. -/
def isTop (v : FVec F (sB N) .f32) : IVec (sB N) 1 := cmpf .oeq v (broadcastTo (sB N) (topRow hs v) hs.down)
/-- The row numbers. -/
def rowNum : IVec (sB N) 32 := iota .tc (sB N) 32 [0] hs.rows
/-- The row numbers of a lane's largest keys, `N` at the others. -/
def cand (v : FVec F (sB N) .f32) : IVec (sB N) 32 := select (isTop hs v) (rowNum hs) (broadcast (sB N) (BitVec.ofNat 32 N))
/-- The smallest row number among a lane's largest keys, as a row. -/
def firstRow (v : FVec F (sB N) .f32) : IVec sR 32 :=
  shapeCast sR (multiReductionI .minsi [0] sV (cand hs v) 2147483647#32 hs.red rfl) hs.cast
/-- The same at every row. -/
def first (v : FVec F (sB N) .f32) : IVec (sB N) 32 := broadcastTo (sB N) (firstRow hs v) hs.down
/-- The rows a round marks. -/
def chosen (v : FVec F (sB N) .f32) : IVec (sB N) 1 := cmpi .eq (rowNum hs) (first hs v)
/-- The keys after a round. -/
def step (v : FVec F (sB N) .f32) : FVec F (sB N) .f32 := select (chosen hs v) (broadcast (sB N) (Scalar.ofBits .f32 0xBF800000#32)) v
/-- The keys at the start of round `t`. -/
def key (a : FVec F (sB N) .f32) : Nat → FVec F (sB N) .f32
  | 0 => absf a
  | t + 1 => step hs (key a t)
/-- The rows marked before round `t`. -/
def sel (a : FVec F (sB N) .f32) : Nat → IVec (sB N) 1
  | 0 => broadcast (sB N) 0#1
  | t + 1 => ori (sel a t) (chosen hs (key hs a t))
/-- The level after `k` rounds. -/
def masked (k : Nat) (a : FVec F (sB N) .f32) : FVec F (sB N) .f32 := select (sel hs a k) a (broadcast (sB N) (Scalar.ofBits .f32 0x00000000#32))
/-- One where a value is not zero. -/
def flags (m : FVec F (sB N) .f32) (h : 1 < 32) : FVec F (sB N) .f32 :=
  sitofp .f32 (extui 32 (cmpf .one m (broadcast (sB N) (Scalar.ofBits .f32 0x00000000#32))) h)
end Text

/-! ## Lane by lane -/

/-- A lane's largest key, when position `p` holds it. -/
theorem top_apply (v : FVec Ideal (sB N) .f32) (l : Fin 1792) (p : Fin N) (hp : ∀ i, v (ix2 i l) ≤ v (ix2 p l)) :
    top hs v (ix1 l) = v (ix2 p l) := by
  have hl : ∀ k : Fin N, hs.red.lift (ix1 l) k = ix2 k l := fun k => funext fun a => by
    match a with
    | ⟨0, _⟩ => rfl
    | ⟨1, _⟩ => rfl
  unfold top
  refine (Ideal.multiReduction_maximumf_single v _ hs.red _ _ (ix1 l)).trans ?_
  show (Finset.univ : Finset (Fin N)).fold max (Ideal.ofBits .f32 0xFF800000#32) (fun k => v (hs.red.lift (ix1 l) k)) = _
  have hb : Ideal.ofBits .f32 0xFF800000#32 = ⊥ := by simp [Ideal.ofBits, Ideal.ieee]
  rw [hb]
  refine le_antisymm (Finset.fold_max_le _ |>.2 ⟨bot_le, fun k _ => ?_⟩) (Finset.le_fold_max _ |>.2 (Or.inr ⟨p, Finset.mem_univ _, ?_⟩))
  · show v (hs.red.lift (ix1 l) (k : Fin N)) ≤ _
    exact (congrArg v (hl k)).trans_le (hp k)
  · exact (congrArg v (hl p)).ge

/-- The smallest of a family of small words is the word of the smallest number. -/
theorem fold_minsi {ι : Type} (s : Finset ι) (M : Nat) (hM : M < 2 ^ 31) (g : ι → Nat) (hg : ∀ i, g i < 2 ^ 31) :
    s.fold IntOp.minsi (BitVec.ofNat 32 M) (fun i => BitVec.ofNat 32 (g i)) = BitVec.ofNat 32 (s.fold min M g) ∧ s.fold min M g < 2 ^ 31 := by
  induction s using Finset.cons_induction with
  | empty => exact ⟨rfl, hM⟩
  | cons a s ha ih =>
    rw [Finset.fold_cons, Finset.fold_cons, ih.1]
    refine ⟨?_, lt_of_le_of_lt (min_le_left _ _) (hg a)⟩
    unfold IntOp.minsi
    rw [BitVec.slt_eq_decide, WordCmp.toInt_ofNat_of_lt (hg a), WordCmp.toInt_ofNat_of_lt ih.2]
    rcases lt_or_ge (g a) (s.fold min M g) with h | h
    · rw [min_eq_left h.le, if_pos (by simpa using h)]
    · rw [min_eq_right h, if_neg (by simpa using h)]

/-- The row a round picks in a lane: the first position `p` whose key is the largest. -/
theorem firstRow_apply (hN : N ≤ 1000) (v : FVec Ideal (sB N) .f32) (l : Fin 1792) (p : Fin N) (hp : ∀ i, v (ix2 i l) ≤ v (ix2 p l))
    (hf : ∀ i, v (ix2 i l) = v (ix2 p l) → p ≤ i) (u : Fin 1) : firstRow hs v (ix2 u l) = BitVec.ofNat 32 p.val := by
  have hl : ∀ k : Fin N, hs.red.lift (ix1 l) k = ix2 k l := fun k => funext fun a => by
    match a with
    | ⟨0, _⟩ => rfl
    | ⟨1, _⟩ => rfl
  have hpN := p.isLt
  have ht : ∀ k : Fin N, select (isTop hs v) (rowNum hs) (broadcast (sB N) (BitVec.ofNat 32 N)) (ix2 k l)
      = BitVec.ofNat 32 (if v (ix2 k l) = v (ix2 p l) then k.val else N) := fun k => by
    show (if BitVec.ofBool (decide (v (ix2 k l) = broadcastTo (sB N) (topRow hs v) hs.down (ix2 k l))) = 1#1 then rowNum hs (ix2 k l) else BitVec.ofNat 32 N) = _
    unfold rowNum
    rw [broadcastTo_1b_ab_apply]
    unfold topRow
    rw [shapeCast_a_1a_apply, top_apply hs v l p hp, iota_single_apply]
    by_cases h : v (ix2 k l) = v (ix2 p l)
    · rw [if_pos h, decide_eq_true h]; rfl
    · rw [if_neg h, decide_eq_false h]; rfl
  unfold firstRow cand
  rw [shapeCast_a_1a_apply]
  refine (multiReductionI_eq_fold .minsi _ _ hs.red _ (ix1 l)).trans ?_
  show (Finset.univ.filter fun i => hs.red.drop i = ix1 l).fold IntOp.minsi 2147483647#32 _ = _
  rw [hs.red.fold_filter_drop_single]
  have hc : (select (isTop hs v) (rowNum hs) (broadcast (sB N) (BitVec.ofNat 32 N)) ∘ hs.red.lift (ix1 l))
      = fun k : Fin N => BitVec.ofNat 32 (if v (ix2 k l) = v (ix2 p l) then k.val else N) := funext fun k => by
    show select _ _ _ (hs.red.lift (ix1 l) k) = _
    rw [hl k]; exact ht k
  rw [hc]
  refine (fold_minsi (Finset.univ : Finset (Fin N)) 2147483647 (by norm_num) (fun k : Fin N => if v (ix2 k l) = v (ix2 p l) then k.val else N) ?_).1.trans ?_
  · intro k
    have := k.isLt
    show (if _ then k.val else N) < 2 ^ 31
    split <;> omega
  · congr 1
    refine le_antisymm (Finset.fold_min_le _ |>.2 (Or.inr ⟨p, Finset.mem_univ _, ?_⟩)) (Finset.le_fold_min _ |>.2 ⟨by omega, fun k _ => ?_⟩)
    · show (if _ then p.val else N) ≤ _
      rw [if_pos rfl]
    · show p.val ≤ (if _ then k.val else N)
      split
      · next h => exact hf k h
      · omega

/-- A round marks that row alone. -/
theorem chosen_apply (hN : N ≤ 1000) (v : FVec Ideal (sB N) .f32) (l : Fin 1792) (p : Fin N) (hp : ∀ i, v (ix2 i l) ≤ v (ix2 p l))
    (hf : ∀ i, v (ix2 i l) = v (ix2 p l) → p ≤ i) (i : Fin N) : chosen hs v (ix2 i l) = BitVec.ofBool (decide (i = p)) := by
  show IntOp.cmpi .eq (rowNum hs (ix2 i l)) (first hs v (ix2 i l)) = _
  unfold first rowNum
  have hi := i.isLt
  have hpN := p.isLt
  rw [broadcastTo_1b_ab_apply, firstRow_apply hs hN v l p hp hf, iota_single_apply, WordCmp.cmpi_eq_eq_toNat]
  congr 1
  refine decide_eq_decide.mpr ?_
  show (BitVec.ofNat 32 i.val).toNat = (BitVec.ofNat 32 p.val).toNat ↔ _
  rw [BitVec.toNat_ofNat, BitVec.toNat_ofNat, Nat.mod_eq_of_lt (by omega), Nat.mod_eq_of_lt (by omega), Fin.ext_iff]

/-- After `t` rounds a lane's keys are its magnitudes with the `t` first ranks overwritten, and the marked rows are those ranks. -/
theorem rounds_apply (hN : N ≤ 1000) (a : FVec Ideal (sB N) .f32) (l : Fin 1792) (t : Nat) (ht : t ≤ N) (i : Fin N) :
    key hs a t (ix2 i l) = Rank.keyAfter (fun i => Spec.mag (a (ix2 i l))) (Ideal.ofBits .f32 0xBF800000#32) t i
      ∧ sel hs a t (ix2 i l) = BitVec.ofBool (decide (Rank.rank (fun i => Spec.mag (a (ix2 i l))) i < t)) := by
  induction t generalizing i with
  | zero =>
    refine ⟨?_, ?_⟩
    · unfold Rank.keyAfter
      rw [if_neg (Nat.not_lt_zero _)]; rfl
    · rw [decide_eq_false (Nat.not_lt_zero _)]; rfl
  | succ t ih =>
    have ih := fun i => ih (by omega) i
    obtain ⟨p, hp⟩ := Rank.exists_rank (fun i => Spec.mag (a (ix2 i l))) (t := t) (by omega)
    have hm : ∀ i, Ideal.ofBits .f32 0xBF800000#32 < Spec.mag (a (ix2 i l)) := fun i => Spec.mark_lt _
    have hc := chosen_apply hs hN (key hs a t) l p
      (fun i => by rw [(ih i).1, (ih p).1]; exact Rank.keyAfter_le _ _ hm hp i)
      (fun i h => Rank.le_of_keyAfter_eq _ _ hm hp i (by rw [← (ih i).1, ← (ih p).1]; exact h)) i
    refine ⟨?_, ?_⟩
    · rw [← Rank.keyAfter_succ _ _ hp i, ← (ih i).1]
      show (if chosen hs (key hs a t) (ix2 i l) = 1#1 then Ideal.ofBits .f32 0xBF800000#32 else key hs a t (ix2 i l)) = _
      rw [hc]
      by_cases h : i = p
      · rw [if_pos h, decide_eq_true h]; rfl
      · rw [if_neg h, decide_eq_false h]; rfl
    · show IntOp.ori (sel hs a t (ix2 i l)) (chosen hs (key hs a t) (ix2 i l)) = _
      rw [hc, (ih i).2]
      have he : i = p ↔ Rank.rank (fun i => Spec.mag (a (ix2 i l))) i = t :=
        ⟨fun h => h ▸ hp, fun h => Rank.rank_injective _ (h.trans hp.symm)⟩
      rw [decide_eq_decide.mpr he]
      rcases lt_trichotomy (Rank.rank (fun i => Spec.mag (a (ix2 i l))) i) t with h | h | h
      · rw [decide_eq_true h, decide_eq_false (by omega), decide_eq_true (by omega)]; rfl
      · rw [decide_eq_false (by omega), decide_eq_true h, decide_eq_true (by omega)]; rfl
      · rw [decide_eq_false (by omega), decide_eq_false (by omega), decide_eq_false (by omega)]; rfl

/-- The level after `k` rounds, in a lane: its `k` largest magnitudes. -/
theorem masked_apply (hN : N ≤ 1000) {k : Nat} (hk : k ≤ N) (a : FVec Ideal (sB N) .f32) (l : Fin 1792) (i : Fin N) :
    masked hs k a (ix2 i l) = Spec.keep k (fun i => a (ix2 i l)) i := by
  show (if sel hs a k (ix2 i l) = 1#1 then a (ix2 i l) else Ideal.ofBits .f32 0x00000000#32) = _
  rw [(rounds_apply hs hN a l k hk i).2, Ideal.ofBits_zero_f32]
  unfold Spec.keep
  by_cases h : Rank.rank (fun i => Spec.mag (a (ix2 i l))) i < k
  · rw [if_pos h, decide_eq_true h]; rfl
  · rw [if_neg h, decide_eq_false h]; rfl

/-- The flag of a value. -/
theorem flags_apply (m : FVec Ideal (sB N) .f32) (h : 1 < 32) (i : Fin N) (l : Fin 1792) : flags m h (ix2 i l) = Spec.flag (m (ix2 i l)) := by
  show ((((BitVec.ofBool (decide (m (ix2 i l) ≠ Ideal.ofBits .f32 0x00000000#32))).setWidth 32).toInt : ℝ) : EReal) = _
  rw [Ideal.ofBits_zero_f32]
  exact Spec.wide_bit_word _

end Cert.Proof.KernelRounds
end
-- ==== Proof.KernelFold.lean ====
/-
  THE KERNEL'S TEXT FOLDED BACK. The printed body is cut into named pieces; here each piece that a later one reads is shown to be a round function
  of KernelRounds at its level's block, and each stored block a row of a masked level. Nothing is computed: both sides are the same operations.
-/
module

public import proofs.«01_k».proof.Proof.KernelRounds
public import proofs.«01_k».proof.Proof.Gen.KernelIdeal.Frame

@[expose] public section

set_option maxRecDepth 16384

noncomputable section

namespace Cert.Proof.KernelFold

open Idealize Idealize.ShloMosaic Idealize.ShloMosaic.ValueIdx Cert.KernelIdeal Cert.KernelIdeal.Gen Cert.Proof.KernelRounds

/-- The round functions apply to a level of 8 atoms. -/
theorem sides8 : Sides 8 := ⟨reduces_S8x1792_S1792, shapeCasts_S1792_S1x1792, broadcasts_S1x1792_S8x1792, iota_S8x1792_d0_w32⟩
/-- The round functions apply to a level of 16 atoms. -/
theorem sides16 : Sides 16 := ⟨reduces_S16x1792_S1792, shapeCasts_S1792_S1x1792, broadcasts_S1x1792_S16x1792, iota_S16x1792_d0_w32⟩
/-- The round functions apply to a level of 32 atoms. -/
theorem sides32 : Sides 32 := ⟨reduces_S32x1792_S1792, shapeCasts_S1792_S1x1792, broadcasts_S1x1792_S32x1792, iota_S32x1792_d0_w32⟩
/-- The round functions apply to a level of 64 atoms. -/
theorem sides64 : Sides 64 := ⟨reduces_S64x1792_S1792, shapeCasts_S1792_S1x1792, broadcasts_S1x1792_S64x1792, iota_S64x1792_d0_w32⟩

variable {F : FTy → Type} [FloatOps F]

/-- A level's rows of the 120 channels. -/
def rowsAt {N : Nat} (off : Nat) (h : S120x1792.Slices ![off, 0] (sB N)) (v : FVec F S120x1792 .f32) : FVec F (sB N) .f32 :=
  extractStridedSlice (sB N) ![off, 0] v h

/-- A level's rows, gated through the connection table by the flags of the level below. -/
def gated {na nb : Nat} (off : Nat) (h : S120x1792.Slices ![off, 0] (sB nb)) (v : FVec F S120x1792 .f32) (d : FVec F (sB na) .f32)
    (t : FVec F ⟨2, ![nb, na]⟩ .f32) : FVec F (sB nb) .f32 :=
  mulf (rowsAt off h v) (sitofp .f32 (extui 32 (cmpf .ogt (matmul (DotDims.plain nb na 1792) none t d (constant (sB nb) .f32 0x00000000#32))
    (broadcast (sB nb) (Scalar.ofBits .f32 0x00000000#32))) natLt_1_32))

/-- The 222 lanes of one image row, as the block a store writes. -/
def rowOut {N : Nat} (off : Nat) (h : (sB N).Slices ![0, off] ⟨2, ![N, 222]⟩) (hc : Shape.ShapeCasts ⟨2, ![N, 222]⟩ ⟨4, ![1, N, 1, 222]⟩)
    (m : FVec F (sB N) .f32) : FVec F ⟨4, ![1, N, 1, 222]⟩ .f32 :=
  shapeCast ⟨4, ![1, N, 1, 222]⟩ (extractStridedSlice ⟨2, ![N, 222]⟩ ![0, off] m h) hc

/-! ## The first level -/

section L0
variable (s : FVec F S96x2688 .f32) (p : FVec F S120x1792 .f32) (w5 w6 w7 w8 : Vec F S1x120x96 .f32) (b : Vec F S120x1 .f32)
/-- The first level's block. -/
def a0 (v : FVec F S120x1792 .f32) : FVec F S8x1792 .f32 := rowsAt 0 slices_S120x1792_o0_0_S8x1792 v
/-- The printed block of the level. -/
theorem f5 : k0_pay5 s p w5 w6 w7 w8 b = a0 (k0_pay4 s p w5 w6 w7 w8 b) := rfl
/-- The printed keys at this round. -/
theorem f6 : k0_pay6 s p w5 w6 w7 w8 b = key sides8 (a0 (k0_pay4 s p w5 w6 w7 w8 b)) 0 := rfl
/-- The rows the first printed round marks. -/
theorem f8 : k0_pay8 s p w5 w6 w7 w8 b = chosen sides8 (key sides8 (a0 (k0_pay4 s p w5 w6 w7 w8 b)) 0) := rfl
variable (a m : FVec F S8x1792 .f32)
/-- The printed masked level. -/
theorem f9 : k0_pay9 a (key sides8 a 0) (iota .tc S8x1792 32 [0] iota_S8x1792_d0_w32) k0_pay7 (chosen sides8 (key sides8 a 0)) = masked sides8 2 a := rfl
/-- The printed flags of the masked level. -/
theorem f10 : k0_pay10 a (key sides8 a 0) (iota .tc S8x1792 32 [0] iota_S8x1792_d0_w32) k0_pay7 (chosen sides8 (key sides8 a 0)) = flags (masked sides8 2 a) natLt_1_32 := rfl
/-- A stored block is one image row of a masked level. -/
theorem f11 : k0_pay11 a (key sides8 a 0) (iota .tc S8x1792 32 [0] iota_S8x1792_d0_w32) k0_pay7 (chosen sides8 (key sides8 a 0)) = rowOut 0 slices_S8x1792_o0_0_S8x222 shapeCasts_S8x222_S1x8x1x222 (masked sides8 2 a) := rfl
/-- A stored block is one image row of a masked level. -/
theorem f12 : k0_pay12 a (key sides8 a 0) (iota .tc S8x1792 32 [0] iota_S8x1792_d0_w32) k0_pay7 (chosen sides8 (key sides8 a 0)) = rowOut 224 slices_S8x1792_o0_224_S8x222 shapeCasts_S8x222_S1x8x1x222 (masked sides8 2 a) := rfl
/-- A stored block is one image row of a masked level. -/
theorem f13 : k0_pay13 a (key sides8 a 0) (iota .tc S8x1792 32 [0] iota_S8x1792_d0_w32) k0_pay7 (chosen sides8 (key sides8 a 0)) = rowOut 448 slices_S8x1792_o0_448_S8x222 shapeCasts_S8x222_S1x8x1x222 (masked sides8 2 a) := rfl
/-- A stored block is one image row of a masked level. -/
theorem f15 : k0_pay15 (k0_pay14 a (key sides8 a 0) (iota .tc S8x1792 32 [0] iota_S8x1792_d0_w32) k0_pay7 (chosen sides8 (key sides8 a 0))) = rowOut 672 slices_S8x1792_o0_672_S8x222 shapeCasts_S8x222_S1x8x1x222 (masked sides8 2 a) := rfl
/-- A stored block is one image row of a masked level. -/
theorem f16 : k0_pay16 m = rowOut 896 slices_S8x1792_o0_896_S8x222 shapeCasts_S8x222_S1x8x1x222 (m) := rfl
/-- A stored block is one image row of a masked level. -/
theorem f17 : k0_pay17 m = rowOut 1120 slices_S8x1792_o0_1120_S8x222 shapeCasts_S8x222_S1x8x1x222 (m) := rfl
/-- A stored block is one image row of a masked level. -/
theorem f18 : k0_pay18 m = rowOut 1344 slices_S8x1792_o0_1344_S8x222 shapeCasts_S8x222_S1x8x1x222 (m) := rfl
/-- A stored block is one image row of a masked level. -/
theorem f19 : k0_pay19 m = rowOut 1568 slices_S8x1792_o0_1568_S8x222 shapeCasts_S8x222_S1x8x1x222 (m) := rfl
end L0

/-! ## The second level -/

section L1
variable (v : FVec F S120x1792 .f32) (d : FVec F S8x1792 .f32) (t : Vec F S16x8 .f32) (a m : FVec F S16x1792 .f32)
/-- The second level's block. -/
def a1 : FVec F S16x1792 .f32 := gated 8 slices_S120x1792_o8_0_S16x1792 v d t
/-- The printed block of the level. -/
theorem f20 : k0_pay20 v d t = a1 v d t := rfl
/-- The printed keys at this round. -/
theorem f21 : k0_pay21 v d t = key sides16 (a1 v d t) 0 := rfl
/-- The printed lane maxima's part of a round. -/
theorem f23 : k0_pay23 v d t = isTop sides16 (key sides16 (a1 v d t) 0) := rfl
/-- The printed marks after these rounds. -/
theorem f24 : k0_pay24 (key sides16 a 0) (iota .tc S16x1792 32 [0] iota_S16x1792_d0_w32) k0_pay22 (isTop sides16 (key sides16 a 0)) 16#32 = sel sides16 a 4 := rfl
/-- The printed masked level. -/
theorem f25 : k0_pay25 a (sel sides16 a 4) (Scalar.ofBits .f32 0x00000000#32) = masked sides16 4 a := rfl
/-- The printed flags of the masked level. -/
theorem f26 : k0_pay26 a (sel sides16 a 4) (Scalar.ofBits .f32 0x00000000#32) = flags (masked sides16 4 a) natLt_1_32 := rfl
/-- A stored block is one image row of a masked level. -/
theorem f27 : k0_pay27 a (sel sides16 a 4) (Scalar.ofBits .f32 0x00000000#32) = rowOut 0 slices_S16x1792_o0_0_S16x222 shapeCasts_S16x222_S1x16x1x222 (masked sides16 4 a) := rfl
/-- A stored block is one image row of a masked level. -/
theorem f28 : k0_pay28 a (sel sides16 a 4) (Scalar.ofBits .f32 0x00000000#32) = rowOut 224 slices_S16x1792_o0_224_S16x222 shapeCasts_S16x222_S1x16x1x222 (masked sides16 4 a) := rfl
/-- A stored block is one image row of a masked level. -/
theorem f29 : k0_pay29 a (sel sides16 a 4) (Scalar.ofBits .f32 0x00000000#32) = rowOut 448 slices_S16x1792_o0_448_S16x222 shapeCasts_S16x222_S1x16x1x222 (masked sides16 4 a) := rfl
/-- A stored block is one image row of a masked level. -/
theorem f30 : k0_pay30 a (sel sides16 a 4) (Scalar.ofBits .f32 0x00000000#32) = rowOut 672 slices_S16x1792_o0_672_S16x222 shapeCasts_S16x222_S1x16x1x222 (masked sides16 4 a) := rfl
/-- A stored block is one image row of a masked level. -/
theorem f31 : k0_pay31 a (sel sides16 a 4) (Scalar.ofBits .f32 0x00000000#32) = rowOut 896 slices_S16x1792_o0_896_S16x222 shapeCasts_S16x222_S1x16x1x222 (masked sides16 4 a) := rfl
/-- A stored block is one image row of a masked level. -/
theorem f32 : k0_pay32 a (sel sides16 a 4) (Scalar.ofBits .f32 0x00000000#32) = rowOut 1120 slices_S16x1792_o0_1120_S16x222 shapeCasts_S16x222_S1x16x1x222 (masked sides16 4 a) := rfl
/-- A stored block is one image row of a masked level. -/
theorem f33 : k0_pay33 m = rowOut 1344 slices_S16x1792_o0_1344_S16x222 shapeCasts_S16x222_S1x16x1x222 (m) := rfl
/-- A stored block is one image row of a masked level. -/
theorem f34 : k0_pay34 m = rowOut 1568 slices_S16x1792_o0_1568_S16x222 shapeCasts_S16x222_S1x16x1x222 (m) := rfl
end L1

/-! ## The third level -/

section L2
variable (v : FVec F S120x1792 .f32) (d : FVec F S16x1792 .f32) (t : Vec F S32x16 .f32) (a m : FVec F S32x1792 .f32)
/-- The third level's block. -/
def a2 : FVec F S32x1792 .f32 := gated 24 slices_S120x1792_o24_0_S32x1792 v d t
/-- The printed block of the level. -/
theorem f35 : k0_pay35 v d t = a2 v d t := rfl
/-- The printed marks after these rounds. -/
theorem f38 : k0_pay38 v d t = sel sides32 (a2 v d t) 1 := rfl
/-- The printed keys at this round. -/
theorem f39 : k0_pay39 v d t = key sides32 (a2 v d t) 1 := rfl
/-- The printed first row's part of a round. -/
theorem f40 : k0_pay40 v d t = cand sides32 (key sides32 (a2 v d t) 1) := rfl
/-- The printed marks after these rounds. -/
theorem f48 : k0_pay48 (iota .tc S32x1792 32 [0] iota_S32x1792_d0_w32) (sel sides32 a 1) (key sides32 a 1) (cand sides32 (key sides32 a 1)) = sel sides32 a 5 := rfl
/-- The printed keys at this round. -/
theorem f49 : k0_pay49 (iota .tc S32x1792 32 [0] iota_S32x1792_d0_w32) (key sides32 a 1) (cand sides32 (key sides32 a 1)) = key sides32 a 5 := rfl
/-- The printed masked level. -/
theorem f50 : k0_pay50 a (iota .tc S32x1792 32 [0] iota_S32x1792_d0_w32) (sel sides32 a 5) (key sides32 a 5) = masked sides32 8 a := rfl
/-- The printed flags of the masked level. -/
theorem f51 : k0_pay51 a (iota .tc S32x1792 32 [0] iota_S32x1792_d0_w32) (sel sides32 a 5) (key sides32 a 5) = flags (masked sides32 8 a) natLt_1_32 := rfl
/-- A stored block is one image row of a masked level. -/
theorem f53 : k0_pay53 (k0_pay52 a (iota .tc S32x1792 32 [0] iota_S32x1792_d0_w32) (sel sides32 a 5) (key sides32 a 5)) = rowOut 0 slices_S32x1792_o0_0_S32x222 shapeCasts_S32x222_S1x32x1x222 (masked sides32 8 a) := rfl
/-- A stored block is one image row of a masked level. -/
theorem f54 : k0_pay54 m = rowOut 224 slices_S32x1792_o0_224_S32x222 shapeCasts_S32x222_S1x32x1x222 (m) := rfl
/-- A stored block is one image row of a masked level. -/
theorem f55 : k0_pay55 m = rowOut 448 slices_S32x1792_o0_448_S32x222 shapeCasts_S32x222_S1x32x1x222 (m) := rfl
/-- A stored block is one image row of a masked level. -/
theorem f56 : k0_pay56 m = rowOut 672 slices_S32x1792_o0_672_S32x222 shapeCasts_S32x222_S1x32x1x222 (m) := rfl
/-- A stored block is one image row of a masked level. -/
theorem f57 : k0_pay57 m = rowOut 896 slices_S32x1792_o0_896_S32x222 shapeCasts_S32x222_S1x32x1x222 (m) := rfl
/-- A stored block is one image row of a masked level. -/
theorem f58 : k0_pay58 m = rowOut 1120 slices_S32x1792_o0_1120_S32x222 shapeCasts_S32x222_S1x32x1x222 (m) := rfl
/-- A stored block is one image row of a masked level. -/
theorem f59 : k0_pay59 m = rowOut 1344 slices_S32x1792_o0_1344_S32x222 shapeCasts_S32x222_S1x32x1x222 (m) := rfl
/-- A stored block is one image row of a masked level. -/
theorem f61 : k0_pay61 (k0_pay60 m) = rowOut 1568 slices_S32x1792_o0_1568_S32x222 shapeCasts_S32x222_S1x32x1x222 (m) := rfl
end L2

/-! ## The fourth level -/

section L3
variable (v : FVec F S120x1792 .f32) (d : FVec F S32x1792 .f32) (t : Vec F S64x32 .f32) (a m : FVec F S64x1792 .f32)
/-- The fourth level's block. -/
def a3 : FVec F S64x1792 .f32 := gated 56 slices_S120x1792_o56_0_S64x1792 v d t
/-- The printed block of the level. -/
theorem f62 : k0_pay62 v d t = a3 v d t := rfl
/-- The printed marks after these rounds. -/
theorem f67 : k0_pay67 v d t = sel sides64 (a3 v d t) 2 := rfl
/-- The printed keys at this round. -/
theorem f68 : k0_pay68 v d t = key sides64 (a3 v d t) 2 := rfl
/-- The printed lane maxima's part of a round. -/
theorem f69 : k0_pay69 v d t = top sides64 (key sides64 (a3 v d t) 2) := rfl
/-- The printed marks after these rounds. -/
theorem f75 : k0_pay75 (iota .tc S64x1792 32 [0] iota_S64x1792_d0_w32) (sel sides64 a 2) (key sides64 a 2) (top sides64 (key sides64 a 2)) = sel sides64 a 5 := rfl
/-- The printed keys at this round. -/
theorem f76 : k0_pay76 (iota .tc S64x1792 32 [0] iota_S64x1792_d0_w32) (key sides64 a 2) (top sides64 (key sides64 a 2)) = key sides64 a 5 := rfl
/-- The printed first row's part of a round. -/
theorem f77 : k0_pay77 (iota .tc S64x1792 32 [0] iota_S64x1792_d0_w32) (key sides64 a 2) (top sides64 (key sides64 a 2)) = firstRow sides64 (key sides64 a 5) := rfl
/-- The printed marks after these rounds. -/
theorem f85 : k0_pay85 (iota .tc S64x1792 32 [0] iota_S64x1792_d0_w32) (sel sides64 a 5) (key sides64 a 5) (firstRow sides64 (key sides64 a 5)) = sel sides64 a 9 := rfl
/-- The printed keys at this round. -/
theorem f86 : k0_pay86 (iota .tc S64x1792 32 [0] iota_S64x1792_d0_w32) (key sides64 a 5) (firstRow sides64 (key sides64 a 5)) = key sides64 a 9 := rfl
/-- The printed lane maxima's part of a round. -/
theorem f87 : k0_pay87 (iota .tc S64x1792 32 [0] iota_S64x1792_d0_w32) (key sides64 a 5) (firstRow sides64 (key sides64 a 5)) = topRow sides64 (key sides64 a 9) := rfl
/-- The printed marks after these rounds. -/
theorem f93 : k0_pay93 (iota .tc S64x1792 32 [0] iota_S64x1792_d0_w32) (sel sides64 a 9) (key sides64 a 9) (topRow sides64 (key sides64 a 9)) = sel sides64 a 12 := rfl
/-- The printed keys at this round. -/
theorem f94 : k0_pay94 (iota .tc S64x1792 32 [0] iota_S64x1792_d0_w32) (key sides64 a 9) (topRow sides64 (key sides64 a 9)) = key sides64 a 12 := rfl
/-- The printed first row's part of a round. -/
theorem f95 : k0_pay95 (iota .tc S64x1792 32 [0] iota_S64x1792_d0_w32) (key sides64 a 9) (topRow sides64 (key sides64 a 9)) = first sides64 (key sides64 a 12) := rfl
/-- The printed masked level. -/
theorem f96 : k0_pay96 a (iota .tc S64x1792 32 [0] iota_S64x1792_d0_w32) (sel sides64 a 12) (key sides64 a 12) (first sides64 (key sides64 a 12)) = masked sides64 16 a := rfl
/-- A stored block is one image row of a masked level. -/
theorem f98 : k0_pay98 (k0_pay97 a (iota .tc S64x1792 32 [0] iota_S64x1792_d0_w32) (sel sides64 a 12) (key sides64 a 12) (first sides64 (key sides64 a 12))) = rowOut 0 slices_S64x1792_o0_0_S64x222 shapeCasts_S64x222_S1x64x1x222 (masked sides64 16 a) := rfl
/-- A stored block is one image row of a masked level. -/
theorem f99 : k0_pay99 m = rowOut 224 slices_S64x1792_o0_224_S64x222 shapeCasts_S64x222_S1x64x1x222 (m) := rfl
/-- A stored block is one image row of a masked level. -/
theorem f100 : k0_pay100 m = rowOut 448 slices_S64x1792_o0_448_S64x222 shapeCasts_S64x222_S1x64x1x222 (m) := rfl
/-- A stored block is one image row of a masked level. -/
theorem f101 : k0_pay101 m = rowOut 672 slices_S64x1792_o0_672_S64x222 shapeCasts_S64x222_S1x64x1x222 (m) := rfl
/-- A stored block is one image row of a masked level. -/
theorem f102 : k0_pay102 m = rowOut 896 slices_S64x1792_o0_896_S64x222 shapeCasts_S64x222_S1x64x1x222 (m) := rfl
/-- A stored block is one image row of a masked level. -/
theorem f103 : k0_pay103 m = rowOut 1120 slices_S64x1792_o0_1120_S64x222 shapeCasts_S64x222_S1x64x1x222 (m) := rfl
/-- A stored block is one image row of a masked level. -/
theorem f104 : k0_pay104 m = rowOut 1344 slices_S64x1792_o0_1344_S64x222 shapeCasts_S64x222_S1x64x1x222 (m) := rfl
/-- A stored block is one image row of a masked level. -/
theorem f1 : k0_pay1 (k0_pay105 m) = rowOut 1568 slices_S64x1792_o0_1568_S64x222 shapeCasts_S64x222_S1x64x1x222 (m) := rfl
end L3

end Cert.Proof.KernelFold
end
-- ==== Proof.KernelBlock.lean ====
/-
  THE STORED BLOCK. The kernel's body ends with 32 stores, one image row of one level each. Their list, as the frame's run finds it, is rewritten
  over the round functions, and the block they leave is read at an index.
-/
module

public import proofs.«01_k».proof.Proof.KernelFold
public import Idealize.ShloMosaic.Lib.Pipeline.ValueKit.Tiles

@[expose] public section

set_option maxRecDepth 16384

noncomputable section

namespace Cert.Proof.KernelBlock

open Idealize Idealize.ShloMosaic Idealize.ShloMosaic.ValueIdx Cert.KernelIdeal Cert.KernelIdeal.Gen Cert.Proof.KernelRounds Cert.Proof.KernelFold
open Idealize.ShloMosaic.Tactic

variable {F : FTy → Type} [FloatOps F]

/-- One store: an image row `r` of a level at channels `off` on. -/
def rowPiece {N : Nat} (off r q : Nat) (inb : ∀ a, ![0, off, r, 0] a + (⟨4, ![1, N, 1, 222]⟩ : Shape).size a ≤ S1x120x8x222.size a)
    (h : (sB N).Slices ![0, q] ⟨2, ![N, 222]⟩) (hc : Shape.ShapeCasts ⟨2, ![N, 222]⟩ ⟨4, ![1, N, 1, 222]⟩) (m : FVec F (sB N) .f32) :
    View.Piece (Elt F) S1x120x8x222 .f32 :=
  ⟨Rect.unit (s := S1x120x8x222) ![0, off, r, 0] (⟨4, ![1, N, 1, 222]⟩ : Shape).size inb, rowOut q h hc m⟩

section Levels
variable (v : FVec F S120x1792 .f32) (t1 : Vec F S16x8 .f32) (t2 : Vec F S32x16 .f32) (t3 : Vec F S64x32 .f32)
/-- The masked levels, from the convolution and the connection tables. -/
def m0 : FVec F S8x1792 .f32 := masked sides8 2 (a0 v)
@[inherit_doc m0] def m1 : FVec F S16x1792 .f32 := masked sides16 4 (a1 v (flags (m0 v) natLt_1_32) t1)
@[inherit_doc m0] def m2 : FVec F S32x1792 .f32 := masked sides32 8 (a2 v (flags (m1 v t1) natLt_1_32) t2)
@[inherit_doc m0] def m3 : FVec F S64x1792 .f32 := masked sides64 16 (a3 v (flags (m2 v t1 t2) natLt_1_32) t3)

/-- The stores, last first. -/
def pieces : List (View.Piece (Elt F) S1x120x8x222 .f32) :=
  [rowPiece (N := 64) 56 7 1568 inb_S1x120x8x222_S1x64x1x222_0_56_7_0 slices_S64x1792_o0_1568_S64x222 shapeCasts_S64x222_S1x64x1x222 (m3 v t1 t2 t3),
   rowPiece (N := 64) 56 6 1344 inb_S1x120x8x222_S1x64x1x222_0_56_6_0 slices_S64x1792_o0_1344_S64x222 shapeCasts_S64x222_S1x64x1x222 (m3 v t1 t2 t3),
   rowPiece (N := 64) 56 5 1120 inb_S1x120x8x222_S1x64x1x222_0_56_5_0 slices_S64x1792_o0_1120_S64x222 shapeCasts_S64x222_S1x64x1x222 (m3 v t1 t2 t3),
   rowPiece (N := 64) 56 4 896 inb_S1x120x8x222_S1x64x1x222_0_56_4_0 slices_S64x1792_o0_896_S64x222 shapeCasts_S64x222_S1x64x1x222 (m3 v t1 t2 t3),
   rowPiece (N := 64) 56 3 672 inb_S1x120x8x222_S1x64x1x222_0_56_3_0 slices_S64x1792_o0_672_S64x222 shapeCasts_S64x222_S1x64x1x222 (m3 v t1 t2 t3),
   rowPiece (N := 64) 56 2 448 inb_S1x120x8x222_S1x64x1x222_0_56_2_0 slices_S64x1792_o0_448_S64x222 shapeCasts_S64x222_S1x64x1x222 (m3 v t1 t2 t3),
   rowPiece (N := 64) 56 1 224 inb_S1x120x8x222_S1x64x1x222_0_56_1_0 slices_S64x1792_o0_224_S64x222 shapeCasts_S64x222_S1x64x1x222 (m3 v t1 t2 t3),
   rowPiece (N := 64) 56 0 0 inb_S1x120x8x222_S1x64x1x222_0_56_0_0 slices_S64x1792_o0_0_S64x222 shapeCasts_S64x222_S1x64x1x222 (m3 v t1 t2 t3),
   rowPiece (N := 32) 24 7 1568 inb_S1x120x8x222_S1x32x1x222_0_24_7_0 slices_S32x1792_o0_1568_S32x222 shapeCasts_S32x222_S1x32x1x222 (m2 v t1 t2),
   rowPiece (N := 32) 24 6 1344 inb_S1x120x8x222_S1x32x1x222_0_24_6_0 slices_S32x1792_o0_1344_S32x222 shapeCasts_S32x222_S1x32x1x222 (m2 v t1 t2),
   rowPiece (N := 32) 24 5 1120 inb_S1x120x8x222_S1x32x1x222_0_24_5_0 slices_S32x1792_o0_1120_S32x222 shapeCasts_S32x222_S1x32x1x222 (m2 v t1 t2),
   rowPiece (N := 32) 24 4 896 inb_S1x120x8x222_S1x32x1x222_0_24_4_0 slices_S32x1792_o0_896_S32x222 shapeCasts_S32x222_S1x32x1x222 (m2 v t1 t2),
   rowPiece (N := 32) 24 3 672 inb_S1x120x8x222_S1x32x1x222_0_24_3_0 slices_S32x1792_o0_672_S32x222 shapeCasts_S32x222_S1x32x1x222 (m2 v t1 t2),
   rowPiece (N := 32) 24 2 448 inb_S1x120x8x222_S1x32x1x222_0_24_2_0 slices_S32x1792_o0_448_S32x222 shapeCasts_S32x222_S1x32x1x222 (m2 v t1 t2),
   rowPiece (N := 32) 24 1 224 inb_S1x120x8x222_S1x32x1x222_0_24_1_0 slices_S32x1792_o0_224_S32x222 shapeCasts_S32x222_S1x32x1x222 (m2 v t1 t2),
   rowPiece (N := 32) 24 0 0 inb_S1x120x8x222_S1x32x1x222_0_24_0_0 slices_S32x1792_o0_0_S32x222 shapeCasts_S32x222_S1x32x1x222 (m2 v t1 t2),
   rowPiece (N := 16) 8 7 1568 inb_S1x120x8x222_S1x16x1x222_0_8_7_0 slices_S16x1792_o0_1568_S16x222 shapeCasts_S16x222_S1x16x1x222 (m1 v t1),
   rowPiece (N := 16) 8 6 1344 inb_S1x120x8x222_S1x16x1x222_0_8_6_0 slices_S16x1792_o0_1344_S16x222 shapeCasts_S16x222_S1x16x1x222 (m1 v t1),
   rowPiece (N := 16) 8 5 1120 inb_S1x120x8x222_S1x16x1x222_0_8_5_0 slices_S16x1792_o0_1120_S16x222 shapeCasts_S16x222_S1x16x1x222 (m1 v t1),
   rowPiece (N := 16) 8 4 896 inb_S1x120x8x222_S1x16x1x222_0_8_4_0 slices_S16x1792_o0_896_S16x222 shapeCasts_S16x222_S1x16x1x222 (m1 v t1),
   rowPiece (N := 16) 8 3 672 inb_S1x120x8x222_S1x16x1x222_0_8_3_0 slices_S16x1792_o0_672_S16x222 shapeCasts_S16x222_S1x16x1x222 (m1 v t1),
   rowPiece (N := 16) 8 2 448 inb_S1x120x8x222_S1x16x1x222_0_8_2_0 slices_S16x1792_o0_448_S16x222 shapeCasts_S16x222_S1x16x1x222 (m1 v t1),
   rowPiece (N := 16) 8 1 224 inb_S1x120x8x222_S1x16x1x222_0_8_1_0 slices_S16x1792_o0_224_S16x222 shapeCasts_S16x222_S1x16x1x222 (m1 v t1),
   rowPiece (N := 16) 8 0 0 inb_S1x120x8x222_S1x16x1x222_0_8_0_0 slices_S16x1792_o0_0_S16x222 shapeCasts_S16x222_S1x16x1x222 (m1 v t1),
   rowPiece (N := 8) 0 7 1568 inb_S1x120x8x222_S1x8x1x222_0_0_7_0 slices_S8x1792_o0_1568_S8x222 shapeCasts_S8x222_S1x8x1x222 (m0 v),
   rowPiece (N := 8) 0 6 1344 inb_S1x120x8x222_S1x8x1x222_0_0_6_0 slices_S8x1792_o0_1344_S8x222 shapeCasts_S8x222_S1x8x1x222 (m0 v),
   rowPiece (N := 8) 0 5 1120 inb_S1x120x8x222_S1x8x1x222_0_0_5_0 slices_S8x1792_o0_1120_S8x222 shapeCasts_S8x222_S1x8x1x222 (m0 v),
   rowPiece (N := 8) 0 4 896 inb_S1x120x8x222_S1x8x1x222_0_0_4_0 slices_S8x1792_o0_896_S8x222 shapeCasts_S8x222_S1x8x1x222 (m0 v),
   rowPiece (N := 8) 0 3 672 inb_S1x120x8x222_S1x8x1x222_0_0_3_0 slices_S8x1792_o0_672_S8x222 shapeCasts_S8x222_S1x8x1x222 (m0 v),
   rowPiece (N := 8) 0 2 448 inb_S1x120x8x222_S1x8x1x222_0_0_2_0 slices_S8x1792_o0_448_S8x222 shapeCasts_S8x222_S1x8x1x222 (m0 v),
   rowPiece (N := 8) 0 1 224 inb_S1x120x8x222_S1x8x1x222_0_0_1_0 slices_S8x1792_o0_224_S8x222 shapeCasts_S8x222_S1x8x1x222 (m0 v),
   rowPiece (N := 8) 0 0 0 inb_S1x120x8x222_S1x8x1x222_0_0_0_0 slices_S8x1792_o0_0_S8x222 shapeCasts_S8x222_S1x8x1x222 (m0 v)]
end Levels

/-- The convolution of the blocks a grid point reads. -/
def conv (x0 : Vec F S1x96x1792 .f32) (x1 : Vec F S1x96x896 .f32) (x2 : Vec F S9x120x96 .f32) (x3 : Vec F S120x1 .f32) : FVec F S120x1792 .f32 :=
  k0_pay4 (k0_pay2 x0 x1)
    (k0_pay3 x0 x1 (View.ld x2 (Rect.unit ![0, 0, 0] S1x120x96.size inb_S9x120x96_S1x120x96_0_0_0))
      (View.ld x2 (Rect.unit ![1, 0, 0] S1x120x96.size inb_S9x120x96_S1x120x96_1_0_0))
      (View.ld x2 (Rect.unit ![2, 0, 0] S1x120x96.size inb_S9x120x96_S1x120x96_2_0_0))
      (View.ld x2 (Rect.unit ![3, 0, 0] S1x120x96.size inb_S9x120x96_S1x120x96_3_0_0))
      (View.ld x2 (Rect.unit ![4, 0, 0] S1x120x96.size inb_S9x120x96_S1x120x96_4_0_0)))
    (View.ld x2 (Rect.unit ![5, 0, 0] S1x120x96.size inb_S9x120x96_S1x120x96_5_0_0))
    (View.ld x2 (Rect.unit ![6, 0, 0] S1x120x96.size inb_S9x120x96_S1x120x96_6_0_0))
    (View.ld x2 (Rect.unit ![7, 0, 0] S1x120x96.size inb_S9x120x96_S1x120x96_7_0_0))
    (View.ld x2 (Rect.unit ![8, 0, 0] S1x120x96.size inb_S9x120x96_S1x120x96_8_0_0)) x3

/-- A load of a whole block from its origin is the block. -/
theorem ld_whole {S : Shape} {e : EltTy} (X : S.Idx → Elt F e) (off : Fin S.rank → Nat) (inb) (h : ∀ a, off a = 0) :
    View.ld X (Rect.unit off S.size inb) = X := View.ld_unit_zero (funext h) inb X

/-- The run's stores are those pieces. -/
theorem run_pieces (c : Dev nD) (i : grid0.Coords) (arg2 : Memref sig .tc .vmem S1x96x1792 .f32) (harg2 : arg2.IsWhole) (arg3 : Memref sig .tc .vmem S1x96x896 .f32) (harg3 : arg3.IsWhole) (arg4 : Memref sig .tc .vmem S9x120x96 .f32) (harg4 : arg4.IsWhole) (arg5 : Memref sig .tc .vmem S120x1 .f32) (harg5 : arg5.IsWhole) (arg6 : Memref sig .tc .vmem S16x8 .f32) (harg6 : arg6.IsWhole) (arg7 : Memref sig .tc .vmem S32x16 .f32) (harg7 : arg7.IsWhole) (arg8 : Memref sig .tc .vmem S64x32 .f32) (harg8 : arg8.IsWhole) (arg9 : Memref sig .tc .vmem S1x120x8x222 .f32) (harg9 : arg9.IsWhole)
    (x0 : Vec F S1x96x1792 .f32) (x1 : Vec F S1x96x896 .f32) (x2 : Vec F S9x120x96 .f32) (x3 : Vec F S120x1 .f32) (x4 : Vec F S16x8 .f32) (x5 : Vec F S32x16 .f32) (x6 : Vec F S64x32 .f32) :
    (kernelRun0_A c i arg2 harg2 arg3 harg3 arg4 harg4 arg5 harg5 arg6 harg6 arg7 harg7 arg8 harg8 arg9 harg9 x0 x1 x2 x3 x4 x5 x6).1
      = pieces (conv x0 x1 x2 x3) x4 x5 x6 := by
  have e0 : View.ld x0 (Rect.unit ![0, 0, 0] S1x96x1792.size inb_S1x96x1792_S1x96x1792_0_0_0) = x0 := ld_whole x0 _ _ (by decide)
  have e1 : View.ld x1 (Rect.unit ![0, 0, 0] S1x96x896.size inb_S1x96x896_S1x96x896_0_0_0) = x1 := ld_whole x1 _ _ (by decide)
  have e3 : View.ld x3 (Rect.unit ![0, 0] S120x1.size inb_S120x1_S120x1_0_0) = x3 := ld_whole x3 _ _ (by decide)
  have e4 : View.ld x4 (Rect.unit ![0, 0] S16x8.size inb_S16x8_S16x8_0_0) = x4 := ld_whole x4 _ _ (by decide)
  have e5 : View.ld x5 (Rect.unit ![0, 0] S32x16.size inb_S32x16_S32x16_0_0) = x5 := ld_whole x5 _ _ (by decide)
  have e6 : View.ld x6 (Rect.unit ![0, 0] S64x32.size inb_S64x32_S64x32_0_0) = x6 := ld_whole x6 _ _ (by decide)
  unfold kernelRun0_A; dsimp only
  sl_unfold_words
  simp only [View.readAt_eq_ld, harg2.read_unread, harg3.read_unread, harg4.read_unread, harg5.read_unread, harg6.read_unread, harg7.read_unread, harg8.read_unread]
  simp only [e0, e1, e3, e4, e5, e6]
  simp only [f5, f6, f8, f9, f10, f11, f12, f13, f15, f16, f17, f18, f19, f20, f21, f23, f24, f25, f26, f27, f28, f29, f30, f31, f32, f33, f34,
    f35, f38, f39, f40, f48, f49, f50, f51, f53, f54, f55, f56, f57, f58, f59, f61, f62, f67, f68, f69, f75, f76, f77, f85, f86, f87, f93, f94, f95,
    f96, f98, f99, f100, f101, f102, f103, f104, f1]
  rfl

end Cert.Proof.KernelBlock
end
-- ==== Proof.KernelConv.lean ====
/-
  THE KERNEL'S CONVOLUTION IN A LANE. The nine products of a grid point read one slab, its eight image rows followed by its four halo rows, each at its
  own displacement; in a lane their sum from zero, with the bias, is the convolution at the lane's pixel.
-/
module

public import proofs.«01_k».proof.Proof.KernelBlock
public import Idealize.ShloMosaic.Lib.MatmulPlain
public import Idealize.ShloMosaic.Lib.ValueLayout

@[expose] public section

set_option maxRecDepth 16384

noncomputable section

namespace Cert.Proof.KernelConv

open Idealize Idealize.ShloMosaic Idealize.ShloMosaic.ValueIdx Cert.KernelIdeal Cert.KernelIdeal.Gen Cert.Proof.KernelBlock

/-- The slab at a channel and a flat position: the image rows, then the halo rows. -/
def slab (x0 : Vec Ideal S1x96x1792 .f32) (x1 : Vec Ideal S1x96x896 .f32) (k : Fin 96) (q : Nat) (hq : q < 2688) : EReal :=
  if h : q < 1792 then x0 (ix3 0 k ⟨q, h⟩) else x1 (ix3 0 k ⟨q - 1792, by omega⟩)

/-- The printed slab is the slab. -/
theorem slab_apply (x0 : Vec Ideal S1x96x1792 .f32) (x1 : Vec Ideal S1x96x896 .f32) (k : Fin 96) (q : Fin 2688) :
    k0_pay2 x0 x1 (ix2 k q) = slab x0 x1 k q.val q.isLt := by
  unfold k0_pay2 slab
  by_cases h : q.val < 1792
  · rw [dif_pos h]
    refine (concatenate_pair_apply_left (t := S96x2688) (s₁ := S96x1792) (s₂ := S96x896) (1 : Fin 2) _ _ _ (ix2 k q) rfl (ix2 k ⟨q.val, h⟩) ?_).trans
      (shapeCast_1ab_ab_apply x0 shapeCasts_S1x96x1792_S96x1792 k ⟨q.val, h⟩)
    intro a
    match a with
    | ⟨0, _⟩ => rfl
    | ⟨1, _⟩ => rfl
  · rw [dif_neg h]
    refine (concatenate_pair_apply_right (t := S96x2688) (s₁ := S96x1792) (s₂ := S96x896) (1 : Fin 2) _ _ _ (ix2 k q) rfl rfl
      (ix2 k ⟨q.val - 1792, by omega⟩) ?_ ?_).trans (shapeCast_1ab_ab_apply x1 shapeCasts_S1x96x896_S96x896 k ⟨q.val - 1792, by omega⟩)
    · intro a ha
      match a with
      | ⟨0, _⟩ => rfl
      | ⟨1, _⟩ => exact absurd rfl ha
    · show q.val - 1792 + 1792 = q.val
      omega

/-- One tap as the kernel takes it: weight plane `t` against the slab `off` further on. -/
def tap (x0 : Vec Ideal S1x96x1792 .f32) (x1 : Vec Ideal S1x96x896 .f32) (x2 : Vec Ideal S9x120x96 .f32) (t : Fin 9) (off : Nat) (ho : off ≤ 896)
    (o : Fin 120) (l : Fin 1792) : EReal :=
  ∑ k : Fin 96, x2 (ix3 t o k) * slab x0 x1 k (off + l.val) (by omega)

/-- Weight plane `t` of the weights, as one load reads it. -/
def plane {F : FTy → Type} [FloatOps F] (x2 : Vec F S9x120x96 .f32) (t : Nat) (inb : ∀ a, ![t, 0, 0] a + S1x120x96.size a ≤ S9x120x96.size a) :
    Vec F S1x120x96 .f32 :=
  View.ld x2 (Rect.unit (s := S9x120x96) ![t, 0, 0] S1x120x96.size inb)

/-- One printed product: a weight plane against the slab from `off` on. -/
def product {F : FTy → Type} [FloatOps F] (s : FVec F S96x2688 .f32) (w : Vec F S1x120x96 .f32) (off : Nat) (hs : S96x2688.Slices ![0, off] S96x1792) :
    FVec F S120x1792 .f32 :=
  matmul (DotDims.plain 120 96 1792) none (shapeCast S120x96 w shapeCasts_S1x120x96_S120x96) (extractStridedSlice S96x1792 ![0, off] s hs)
    (constant S120x1792 .f32 0x00000000#32)

/-- The printed convolution, product by product. -/
theorem conv_fold {F : FTy → Type} [FloatOps F] (x0 : Vec F S1x96x1792 .f32) (x1 : Vec F S1x96x896 .f32) (x2 : Vec F S9x120x96 .f32) (x3 : Vec F S120x1 .f32) :
    conv x0 x1 x2 x3 = addf (addf (addf (addf (addf (addf (addf (addf (addf (addf (broadcast S120x1792 (Scalar.ofBits .f32 0x00000000#32))
      (product (k0_pay2 x0 x1) (plane x2 0 inb_S9x120x96_S1x120x96_0_0_0) 0 slices_S96x2688_o0_0_S96x1792))
      (product (k0_pay2 x0 x1) (plane x2 1 inb_S9x120x96_S1x120x96_1_0_0) 1 slices_S96x2688_o0_1_S96x1792))
      (product (k0_pay2 x0 x1) (plane x2 2 inb_S9x120x96_S1x120x96_2_0_0) 2 slices_S96x2688_o0_2_S96x1792))
      (product (k0_pay2 x0 x1) (plane x2 3 inb_S9x120x96_S1x120x96_3_0_0) 224 slices_S96x2688_o0_224_S96x1792))
      (product (k0_pay2 x0 x1) (plane x2 4 inb_S9x120x96_S1x120x96_4_0_0) 225 slices_S96x2688_o0_225_S96x1792))
      (product (k0_pay2 x0 x1) (plane x2 5 inb_S9x120x96_S1x120x96_5_0_0) 226 slices_S96x2688_o0_226_S96x1792))
      (product (k0_pay2 x0 x1) (plane x2 6 inb_S9x120x96_S1x120x96_6_0_0) 448 slices_S96x2688_o0_448_S96x1792))
      (product (k0_pay2 x0 x1) (plane x2 7 inb_S9x120x96_S1x120x96_7_0_0) 449 slices_S96x2688_o0_449_S96x1792))
      (product (k0_pay2 x0 x1) (plane x2 8 inb_S9x120x96_S1x120x96_8_0_0) 450 slices_S96x2688_o0_450_S96x1792))
      (broadcastTo S120x1792 (shapeCast S120x1 x3 shapeCasts_S120x1_S120x1) broadcasts_S120x1_S120x1792) := rfl

/-- A sum of blocks at an index. -/
theorem addf_at {S : Shape} (x y : FVec Ideal S .f32) (j : S.Idx) : addf x y j = x j + y j := rfl

/-- A printed product in a lane is a tap. -/
theorem product_apply (x0 : Vec Ideal S1x96x1792 .f32) (x1 : Vec Ideal S1x96x896 .f32) (x2 : Vec Ideal S9x120x96 .f32) (t : Fin 9) (off : Nat) (ho : off ≤ 896)
    (inb : ∀ a, ![t.val, 0, 0] a + S1x120x96.size a ≤ S9x120x96.size a) (hs : S96x2688.Slices ![0, off] S96x1792) (o : Fin 120) (l : Fin 1792) :
    product (k0_pay2 x0 x1) (plane x2 t.val inb) off hs (ix2 o l) = tap x0 x1 x2 t off ho o l := by
  show FloatOps.matmul (F := Ideal) (φ₁ := .f32) (φ₂ := .f32) (DotDims.plain 120 96 1792) none _ _ (constant (F := Ideal) S120x1792 .f32 0x00000000#32) (ix2 o l) = _
  rw [Ideal.matmul_plain_apply]
  show Ideal.ofBits .f32 0x00000000#32 + _ = _
  rw [Ideal.ofBits_zero_f32, zero_add]
  unfold tap
  refine Finset.sum_congr rfl fun k _ => congr (congrArg _ ?_) ?_
  · refine (shapeCast_1ab_ab_apply _ _ _ _).trans (View.ld_unit_apply_of x2 _ _ _ _ (ix3 t o k) ?_)
    intro a
    match a with
    | ⟨0, _⟩ => rfl
    | ⟨1, _⟩ => exact (Nat.zero_add _).symm
    | ⟨2, _⟩ => exact (Nat.zero_add _).symm
  · refine (extractStridedSlice_apply ![0, off] _ hs (ix2 k l) (ix2 k ⟨off + l.val, by omega⟩) ?_).trans (slab_apply x0 x1 k _)
    intro a
    match a with
    | ⟨0, _⟩ => exact (Nat.zero_add _).symm
    | ⟨1, _⟩ => rfl

/-- The kernel's convolution in a lane. -/
theorem conv_apply (x0 : Vec Ideal S1x96x1792 .f32) (x1 : Vec Ideal S1x96x896 .f32) (x2 : Vec Ideal S9x120x96 .f32) (x3 : Vec Ideal S120x1 .f32)
    (o : Fin 120) (l : Fin 1792) :
    conv x0 x1 x2 x3 (ix2 o l)
      = 0 + tap x0 x1 x2 0 0 (by omega) o l + tap x0 x1 x2 1 1 (by omega) o l + tap x0 x1 x2 2 2 (by omega) o l
        + tap x0 x1 x2 3 224 (by omega) o l + tap x0 x1 x2 4 225 (by omega) o l + tap x0 x1 x2 5 226 (by omega) o l
        + tap x0 x1 x2 6 448 (by omega) o l + tap x0 x1 x2 7 449 (by omega) o l + tap x0 x1 x2 8 450 (by omega) o l + x3 (ix2 o 0) := by
  rw [conv_fold]
  simp only [addf_at]
  refine congr (congrArg _ ?_) ?_
  · rw [← product_apply x0 x1 x2 0 0 (by omega) inb_S9x120x96_S1x120x96_0_0_0 slices_S96x2688_o0_0_S96x1792 o l,
      ← product_apply x0 x1 x2 1 1 (by omega) inb_S9x120x96_S1x120x96_1_0_0 slices_S96x2688_o0_1_S96x1792 o l,
      ← product_apply x0 x1 x2 2 2 (by omega) inb_S9x120x96_S1x120x96_2_0_0 slices_S96x2688_o0_2_S96x1792 o l,
      ← product_apply x0 x1 x2 3 224 (by omega) inb_S9x120x96_S1x120x96_3_0_0 slices_S96x2688_o0_224_S96x1792 o l,
      ← product_apply x0 x1 x2 4 225 (by omega) inb_S9x120x96_S1x120x96_4_0_0 slices_S96x2688_o0_225_S96x1792 o l,
      ← product_apply x0 x1 x2 5 226 (by omega) inb_S9x120x96_S1x120x96_5_0_0 slices_S96x2688_o0_226_S96x1792 o l,
      ← product_apply x0 x1 x2 6 448 (by omega) inb_S9x120x96_S1x120x96_6_0_0 slices_S96x2688_o0_448_S96x1792 o l,
      ← product_apply x0 x1 x2 7 449 (by omega) inb_S9x120x96_S1x120x96_7_0_0 slices_S96x2688_o0_449_S96x1792 o l,
      ← product_apply x0 x1 x2 8 450 (by omega) inb_S9x120x96_S1x120x96_8_0_0 slices_S96x2688_o0_450_S96x1792 o l,
      ← Ideal.ofBits_zero_f32]
    rfl
  · refine (broadcastTo_apply _ _ (ix2 o l) (ix2 o (0 : Fin 1)) ?_).trans (shapeCast_apply _ _ _ (ix2 o 0) rfl)
    intro a
    match a with
    | ⟨0, _⟩ => rfl
    | ⟨1, _⟩ => rfl

/-- The kernel's convolution in a lane is the convolution at a pixel, when the slab holds the pixel's neighbourhood and the weights and the bias are the
    arguments laid out by tap. -/
theorem conv_eq_act (x0 : Vec Ideal S1x96x1792 .f32) (x1 : Vec Ideal S1x96x896 .f32) (x2 : Vec Ideal S9x120x96 .f32) (x3 : Vec Ideal S120x1 .f32)
    (X : (⟨4, ![4, 96, 224, 224]⟩ : Shape).Idx → EReal) (W : (⟨4, ![120, 96, 3, 3]⟩ : Shape).Idx → EReal) (B : (⟨1, ![120]⟩ : Shape).Idx → EReal)
    (b : Fin 4) (r c : Fin 222) (l : Fin 1792)
    (hX : ∀ (k : Fin 96) (dy dx : Fin 3), slab x0 x1 k (224 * dy.val + dx.val + l.val) (by omega)
      = X (ix4 b k ⟨r.val + dy.val, by omega⟩ ⟨c.val + dx.val, by omega⟩))
    (hW : ∀ (dy dx : Fin 3) (o : Fin 120) (k : Fin 96), x2 (ix3 ⟨3 * dy.val + dx.val, by omega⟩ o k) = W (ix4 o k dy dx))
    (hB : ∀ o : Fin 120, x3 (ix2 o 0) = B (ix1 o)) (o : Fin 120) :
    conv x0 x1 x2 x3 (ix2 o l) = Spec.act X W B b r c o := by
  have ht : ∀ dy dx : Fin 3, tap x0 x1 x2 ⟨3 * dy.val + dx.val, by omega⟩ (224 * dy.val + dx.val) (by omega) o l = Spec.tap X W dy dx b r c o := by
    intro dy dx
    unfold tap Spec.tap
    exact Finset.sum_congr rfl fun k _ => by rw [hX, hW]
  rw [conv_apply, hB]
  unfold Spec.act
  rw [← ht 0 0, ← ht 0 1, ← ht 0 2, ← ht 1 0, ← ht 1 1, ← ht 1 2, ← ht 2 0, ← ht 2 1, ← ht 2 2]
  rfl

end Cert.Proof.KernelConv
end
-- ==== Proof.KernelInputs.lean ====
/-
  WHAT A GRID POINT READS. The operands as the region finds them, from the arguments, and each input block of a grid point at its coordinates.
-/
module

public import proofs.«01_k».proof.Proof.KernelTables
public import proofs.«01_k».proof.Proof.KernelConv
public import Idealize.ShloMosaic.Lib.Pipeline.Value

@[expose] public section

set_option maxRecDepth 16384

noncomputable section

namespace Cert.Proof.KernelInputs

open Idealize Idealize.ShloMosaic Idealize.ShloMosaic.ValueIdx Idealize.ShloMosaic.TcCoe Cert.KernelIdeal Cert.KernelIdeal.Gen

variable (m : (ℓ : Loc nD τ sig) → Buf (Elt Ideal) ℓ) (c : Dev nD)

/-! ## The operands -/

/-- The image operand is the image, its rows flattened. -/
theorem V_v0 : V m c main_v0 = shapeCast S4x96x50176 (m ((c : Thread nD τ).loc main_arg0)) shapeCasts_S4x96x224x224_S4x96x50176 := by
  dsimp only [V, hostOps0]; after_results; rfl

/-- The weight operand is the weights, tap by tap. -/
theorem V_v2 : V m c main_v2 = shapeCast S9x120x96 (transpose S3x3x120x96 [2, 3, 0, 1] (m ((c : Thread nD τ).loc main_arg1))
    transposes_S120x96x3x3_S3x3x120x96_2_3_0_1) shapeCasts_S3x3x120x96_S9x120x96 := by
  dsimp only [V, hostOps0]; after_results; rfl

/-- The bias operand is the bias as a column. -/
theorem V_v3 : V m c main_v3 = shapeCast S120x1 (m ((c : Thread nD τ).loc main_arg2)) shapeCasts_S120_S120x1 := by
  dsimp only [V, hostOps0]; after_results; rfl

/-- The first table operand. -/
theorem V_cst : V m c main_cst = fun i => FloatOps.ofBits (F := Ideal) .f32 (lit0 (S16x8.rowMajor i)) := by
  dsimp only [V, hostOps0]; after_results; rfl
/-- The second table operand. -/
theorem V_cst_0 : V m c main_cst_0 = fun i => FloatOps.ofBits (F := Ideal) .f32 (lit1 (S32x16.rowMajor i)) := by
  dsimp only [V, hostOps0]; after_results; rfl
/-- The third table operand. -/
theorem V_cst_1 : V m c main_cst_1 = fun i => FloatOps.ofBits (F := Ideal) .f32 (lit2 (S64x32.rowMajor i)) := by
  dsimp only [V, hostOps0]; after_results; rfl

/-- The image operand at a pixel. -/
theorem v0_apply (b : Fin 4) (k : Fin 96) (r x : Fin 224) (q : Fin 50176) (hq : q.val = 224 * r.val + x.val) :
    V m c main_v0 (ix3 b k q) = m ((c : Thread nD τ).loc main_arg0) (ix4 b k r x) := by
  rw [V_v0]
  refine shapeCast_apply _ _ (ix3 b k q) (ix4 b k r x) ?_
  rw [Shape.rowMajor_val_four, Shape.rowMajor_val_three]
  show ((b.val * 96 + k.val) * 224 + r.val) * 224 + x.val = (b.val * 96 + k.val) * 50176 + q.val
  omega

/-- The weight operand at a tap. -/
theorem v2_apply (dy dx : Fin 3) (o : Fin 120) (k : Fin 96) (t : Fin 9) (ht : t.val = 3 * dy.val + dx.val) :
    V m c main_v2 (ix3 t o k) = m ((c : Thread nD τ).loc main_arg1) (ix4 o k dy dx) := by
  rw [V_v2]
  refine (shapeCast_apply _ _ (ix3 t o k) (ix4 dy dx o k) ?_).trans ?_
  · rw [Shape.rowMajor_val_four, Shape.rowMajor_val_three]
    show ((dy.val * 3 + dx.val) * 120 + o.val) * 96 + k.val = (t.val * 120 + o.val) * 96 + k.val
    omega
  · refine congrArg (m ((c : Thread nD τ).loc main_arg1)) (funext fun a => Fin.ext ?_)
    match a with
    | ⟨0, _⟩ => rfl
    | ⟨1, _⟩ => rfl
    | ⟨2, _⟩ => rfl
    | ⟨3, _⟩ => rfl

/-- The bias operand at a channel. -/
theorem v3_apply (o : Fin 120) : V m c main_v3 (ix2 o 0) = m ((c : Thread nD τ).loc main_arg2) (ix1 o) := by
  rw [V_v3]
  refine shapeCast_apply _ _ (ix2 o (0 : Fin 1)) (ix1 o) ?_
  rw [Shape.rowMajor_val_two, Shape.rowMajor_val_one]
  show o.val = o.val * 1 + 0
  omega

/-! ## The blocks -/

/-- Where the blocks lie: the image block and the output block at the same image and row block, the halo two half-blocks on, cut back only at the last. -/
theorem index_facts : ∀ t : Fin grid0.N, win0_7.index t (0 : Fin 4) < 4 ∧ win0_7.index t (1 : Fin 4) = 0 ∧ win0_7.index t (2 : Fin 4) < 28 ∧ win0_7.index t (3 : Fin 4) = 0
    ∧ win0_0.index t (0 : Fin 3) = win0_7.index t (0 : Fin 4) ∧ win0_0.index t (1 : Fin 3) = 0 ∧ win0_0.index t (2 : Fin 3) = win0_7.index t (2 : Fin 4)
    ∧ win0_1.index t (0 : Fin 3) = win0_7.index t (0 : Fin 4) ∧ win0_1.index t (1 : Fin 3) = 0 ∧ win0_1.index t (2 : Fin 3) = min (2 * win0_7.index t (2 : Fin 4) + 2) 55 := by
  decide +kernel

/-- What a write-back moves: the whole block, its rows cut at the array's end. -/
theorem size_facts : ∀ t : Fin grid0.N, win0_7.xsize (grid0.coords t) (0 : Fin 4) = 1 ∧ win0_7.xsize (grid0.coords t) (1 : Fin 4) = 120
    ∧ win0_7.xsize (grid0.coords t) (2 : Fin 4) = min 8 (222 - 8 * win0_7.index t (2 : Fin 4)) ∧ win0_7.xsize (grid0.coords t) (3 : Fin 4) = 222 := by
  decide +kernel

/-- Every image and row block is some grid point's. -/
theorem index_onto : ∀ (b : Fin 4) (h : Fin 28), ∃ t : Fin grid0.N, win0_7.index t (0 : Fin 4) = b.val ∧ win0_7.index t (2 : Fin 4) = h.val := by
  decide +kernel

/-- The image block at its coordinates. -/
theorem block0_apply (t : Fin cfg0.N) (k : Fin 96) (q : Fin 1792) (b : Fin 4) (p : Fin 50176) (hb : b.val = win0_7.index t (0 : Fin 4))
    (hp : p.val = win0_7.index t (2 : Fin 4) * 1792 + q.val) : iblk m c 0 t (ix3 (0 : Fin 1) k q) = V m c main_v0 (ix3 b k p) := by
  obtain ⟨-, -, -, -, e0, e1, e2, -, -, -⟩ := index_facts t
  show V m c main_v0 ((win0_0.rect t).emb (ix3 (0 : Fin 1) k q)) = _
  refine congrArg (V m c main_v0) (funext fun a => Fin.ext ?_)
  refine (win0_0.rect_emb_val t _ a).trans ?_
  match a with
  | ⟨0, _⟩ => show win0_0.index t (0 : Fin 3) * 1 + 0 = b.val; omega
  | ⟨1, _⟩ => show win0_0.index t (1 : Fin 3) * 96 + k.val = k.val; omega
  | ⟨2, _⟩ => show win0_0.index t (2 : Fin 3) * 1792 + q.val = p.val; omega

/-- The halo block at its coordinates. -/
theorem block1_apply (t : Fin cfg0.N) (k : Fin 96) (q : Fin 896) (b : Fin 4) (p : Fin 50176) (hb : b.val = win0_7.index t (0 : Fin 4))
    (hp : p.val = min (2 * win0_7.index t (2 : Fin 4) + 2) 55 * 896 + q.val) : iblk m c 1 t (ix3 (0 : Fin 1) k q) = V m c main_v0 (ix3 b k p) := by
  obtain ⟨-, -, -, -, -, -, -, e0, e1, e2⟩ := index_facts t
  show V m c main_v0 ((win0_1.rect t).emb (ix3 (0 : Fin 1) k q)) = _
  refine congrArg (V m c main_v0) (funext fun a => Fin.ext ?_)
  refine (win0_1.rect_emb_val t _ a).trans ?_
  match a with
  | ⟨0, _⟩ => show win0_1.index t (0 : Fin 3) * 1 + 0 = b.val; omega
  | ⟨1, _⟩ => show win0_1.index t (1 : Fin 3) * 96 + k.val = k.val; omega
  | ⟨2, _⟩ => show win0_1.index t (2 : Fin 3) * 896 + q.val = p.val; rw [e2, hp]

/-- The weight block is the weight operand. -/
theorem block2_eq (t : Fin cfg0.N) : iblk m c 2 t = V m c main_v2 := by
  funext x
  show V m c main_v2 ((win0_2.rect t).emb x) = _
  exact congrArg (V m c main_v2) (funext fun a => Fin.ext (win0_2.rect_emb_val_of_index_zero t a (by match a with | ⟨0, _⟩ => rfl | ⟨1, _⟩ => rfl | ⟨2, _⟩ => rfl) x))
/-- The bias block is the bias operand. -/
theorem block3_eq (t : Fin cfg0.N) : iblk m c 3 t = V m c main_v3 := by
  funext x
  show V m c main_v3 ((win0_3.rect t).emb x) = _
  exact congrArg (V m c main_v3) (funext fun a => Fin.ext (win0_3.rect_emb_val_of_index_zero t a (by match a with | ⟨0, _⟩ => rfl | ⟨1, _⟩ => rfl) x))
/-- The first table's block is the table. -/
theorem block4_eq (t : Fin cfg0.N) : iblk m c 4 t = V m c main_cst := by
  funext x
  show V m c main_cst ((win0_4.rect t).emb x) = _
  exact congrArg (V m c main_cst) (funext fun a => Fin.ext (win0_4.rect_emb_val_of_index_zero t a (by match a with | ⟨0, _⟩ => rfl | ⟨1, _⟩ => rfl) x))
/-- The second table's block is the table. -/
theorem block5_eq (t : Fin cfg0.N) : iblk m c 5 t = V m c main_cst_0 := by
  funext x
  show V m c main_cst_0 ((win0_5.rect t).emb x) = _
  exact congrArg (V m c main_cst_0) (funext fun a => Fin.ext (win0_5.rect_emb_val_of_index_zero t a (by match a with | ⟨0, _⟩ => rfl | ⟨1, _⟩ => rfl) x))
/-- The third table's block is the table. -/
theorem block6_eq (t : Fin cfg0.N) : iblk m c 6 t = V m c main_cst_1 := by
  funext x
  show V m c main_cst_1 ((win0_6.rect t).emb x) = _
  exact congrArg (V m c main_cst_1) (funext fun a => Fin.ext (win0_6.rect_emb_val_of_index_zero t a (by match a with | ⟨0, _⟩ => rfl | ⟨1, _⟩ => rfl) x))

/-- The first table's block holds the links. -/
theorem links0 (t : Fin cfg0.N) (i : Fin 16) (j : Fin 8) : iblk m c 4 t (ix2 i j) = Spec.link 8 16 i j := by
  rw [block4_eq, V_cst]; exact KernelTables.table0 i j
/-- The second table's block holds the links. -/
theorem links1 (t : Fin cfg0.N) (i : Fin 32) (j : Fin 16) : iblk m c 5 t (ix2 i j) = Spec.link 16 32 i j := by
  rw [block5_eq, V_cst_0]; exact KernelTables.table1 i j
/-- The third table's block holds the links. -/
theorem links2 (t : Fin cfg0.N) (i : Fin 64) (j : Fin 32) : iblk m c 6 t (ix2 i j) = Spec.link 32 64 i j := by
  rw [block6_eq, V_cst_1]; exact KernelTables.table2 i j

end Cert.Proof.KernelInputs
end
-- ==== Proof.KernelLevel.lean ====
/-
  THE KERNEL'S LEVELS IN A LANE. The masked levels of a convolution, read in one lane, are the levels of that lane's column of 120 values.
-/
module

public import proofs.«01_k».proof.Proof.KernelBlock
public import Idealize.ShloMosaic.Lib.MatmulPlain

@[expose] public section

set_option maxRecDepth 16384

noncomputable section

namespace Cert.Proof.KernelLevel

open Idealize Idealize.ShloMosaic Idealize.ShloMosaic.ValueIdx Cert.KernelIdeal Cert.KernelIdeal.Gen Cert.Proof.KernelRounds Cert.Proof.KernelFold
open Cert.Proof.KernelBlock

/-- A level's row is the row of the channels `off` further on. -/
theorem rowsAt_apply {N : Nat} (off : Nat) (h : S120x1792.Slices ![off, 0] (sB N)) (v : FVec Ideal S120x1792 .f32) (i : Fin N) (l : Fin 1792)
    (hN : off + i.val < 120) : rowsAt off h v (ix2 i l) = v (ix2 ⟨off + i.val, hN⟩ l) := by
  refine (extractStridedSlice_apply ![off, 0] v h (ix2 i l) (ix2 ⟨off + i.val, hN⟩ l) ?_)
  intro a
  match a with
  | ⟨0, _⟩ => rfl
  | ⟨1, _⟩ => exact (Nat.zero_add _).symm

/-- A gated level in a lane: the channel times the gate. -/
theorem gated_apply {na nb : Nat} (off : Nat) (h : S120x1792.Slices ![off, 0] (sB nb)) (v : FVec Ideal S120x1792 .f32) (d : FVec Ideal (sB na) .f32)
    (t : FVec Ideal ⟨2, ![nb, na]⟩ .f32) (m : Fin na → EReal) (l : Fin 1792) (hd : ∀ j, d (ix2 j l) = Spec.flag (m j))
    (ht : ∀ i j, t (ix2 i j) = Spec.link na nb i j) (i : Fin nb) (hN : off + i.val < 120) :
    gated off h v d t (ix2 i l) = v (ix2 ⟨off + i.val, hN⟩ l) * Spec.gate m i := by
  show rowsAt off h v (ix2 i l) * ((((BitVec.ofBool (decide (Ideal.ofBits .f32 0x00000000#32 <
    FloatOps.matmul (DotDims.plain nb na 1792) none t d (constant (sB nb) .f32 0x00000000#32) (ix2 i l)))).setWidth 32).toInt : ℝ) : EReal) = _
  rw [rowsAt_apply off h v i l hN, Spec.wide_bit_word]
  unfold Spec.gate
  refine congrArg (v (ix2 ⟨off + i.val, hN⟩ l) * ·) (if_congr (iff_of_eq (congr (congrArg _ Ideal.ofBits_zero_f32) ?_)) rfl rfl)
  rw [Ideal.matmul_plain_apply]
  show Ideal.ofBits .f32 0x00000000#32 + _ = _
  rw [Ideal.ofBits_zero_f32, zero_add]
  exact Finset.sum_congr rfl fun j _ => by rw [ht, hd]

variable (v : FVec Ideal S120x1792 .f32) (t1 : Vec Ideal S16x8 .f32) (t2 : Vec Ideal S32x16 .f32) (t3 : Vec Ideal S64x32 .f32) (l : Fin 1792)

/-- The column of a lane. -/
def col (v : FVec Ideal S120x1792 .f32) (l : Fin 1792) : Fin 120 → EReal := fun o => v (ix2 o l)

/-- The first level in a lane. -/
theorem m0_apply (i : Fin 8) : m0 v (ix2 i l) = Spec.l0 (col v l) i := by
  unfold m0 Spec.l0
  rw [masked_apply sides8 (by omega) (by omega)]
  exact congrArg (fun f => Spec.keep 2 f i) (funext fun i => rowsAt_apply 0 _ v i l (by omega))

variable (h1 : ∀ i j, t1 (ix2 i j) = Spec.link 8 16 i j) (h2 : ∀ i j, t2 (ix2 i j) = Spec.link 16 32 i j) (h3 : ∀ i j, t3 (ix2 i j) = Spec.link 32 64 i j)
include h1

/-- The second level in a lane. -/
theorem m1_apply (i : Fin 16) : m1 v t1 (ix2 i l) = Spec.l1 (col v l) i := by
  unfold m1 Spec.l1
  rw [masked_apply sides16 (by omega) (by omega)]
  exact congrArg (fun f => Spec.keep 4 f i) (funext fun i => gated_apply 8 _ v _ t1 (Spec.l0 (col v l)) l
    (fun j => by rw [flags_apply, m0_apply]) h1 i (by omega))

include h2

/-- The third level in a lane. -/
theorem m2_apply (i : Fin 32) : m2 v t1 t2 (ix2 i l) = Spec.l2 (col v l) i := by
  unfold m2 Spec.l2
  rw [masked_apply sides32 (by omega) (by omega)]
  exact congrArg (fun f => Spec.keep 8 f i) (funext fun i => gated_apply 24 _ v _ t2 (Spec.l1 (col v l)) l
    (fun j => by rw [flags_apply, m1_apply v t1 l h1]) h2 i (by omega))

include h3

/-- The fourth level in a lane. -/
theorem m3_apply (i : Fin 64) : m3 v t1 t2 t3 (ix2 i l) = Spec.l3 (col v l) i := by
  unfold m3 Spec.l3
  rw [masked_apply sides64 (by omega) (by omega)]
  exact congrArg (fun f => Spec.keep 16 f i) (funext fun i => gated_apply 56 _ v _ t3 (Spec.l2 (col v l)) l
    (fun j => by rw [flags_apply, m2_apply v t1 t2 l h1 h2]) h3 i (by omega))

omit h1 h2 h3

/-- The block the stores leave, index by index: channel, row and column of the image row. -/
def block (v : FVec Ideal S120x1792 .f32) (y : S1x120x8x222.Idx) : EReal :=
  Spec.out (col v ⟨224 * (y 2).val + (y 3).val, by have h2 := (y 2).isLt; have h3 := (y 3).isLt; change _ < 8 at h2; change _ < 222 at h3; omega⟩) (y 1)

/-- A stored row agrees with the block: level `m` holding `f` of the lane's column, at channels `off` on, row `r`. -/
theorem row_apply {N : Nat} (off r : Nat) (inb : ∀ a, ![0, off, r, 0] a + (⟨4, ![1, N, 1, 222]⟩ : Shape).size a ≤ S1x120x8x222.size a)
    (q : Nat) (hq : q = 224 * r) (h : (sB N).Slices ![0, q] ⟨2, ![N, 222]⟩) (hc : Shape.ShapeCasts ⟨2, ![N, 222]⟩ ⟨4, ![1, N, 1, 222]⟩) (m : FVec Ideal (sB N) .f32)
    (hr : r < 8) (hN : off + N ≤ 120)
    (hm : ∀ (i : Fin N) (l : Fin 1792), m (ix2 i l) = Spec.out (col v l) ⟨off + i.val, by omega⟩)
    (x : (rowPiece (F := Ideal) off r q inb h hc m).1.shape.Idx) :
    (rowPiece (F := Ideal) off r q inb h hc m).2 x = block v ((rowPiece (F := Ideal) off r q inb h hc m).1.emb x) := by
  change (⟨4, ![1, N, 1, 222]⟩ : Shape).Idx at x
  show rowOut q h hc m x = block v ((Rect.unit (s := S1x120x8x222) ![0, off, r, 0] (⟨4, ![1, N, 1, 222]⟩ : Shape).size inb).emb x)
  obtain ⟨x0, i, x2, c, rfl⟩ : ∃ (x0 : Fin 1) (i : Fin N) (x2 : Fin 1) (c : Fin 222), x = ix4 x0 i x2 c := ⟨x 0, x 1, x 2, x 3, eq_ix4 x⟩
  subst hq
  have e0 : x0.val = 0 := by omega
  have e2 : x2.val = 0 := by omega
  unfold rowOut
  refine (shapeCast_apply _ hc (ix4 x0 i x2 c) (ix2 i c) ?_).trans ?_
  · rw [Shape.rowMajor_val_two, Shape.rowMajor_val_four]
    show i.val * 222 + c.val = ((x0.val * N + i.val) * 1 + x2.val) * 222 + c.val
    rw [e0, e2]; omega
  refine (extractStridedSlice_apply ![0, 224 * r] m h (ix2 i c) (ix2 i ⟨224 * r + c.val, by omega⟩) ?_).trans ?_
  · intro a
    match a with
    | ⟨0, _⟩ => exact (Nat.zero_add _).symm
    | ⟨1, _⟩ => rfl
  rw [hm]
  unfold block
  refine congr (congrArg Spec.out (congrArg (col v) (Fin.ext ?_))) (Fin.ext ?_)
  · show 224 * r + c.val = 224 * (r + 1 * x2.val) + (0 + 1 * c.val); rw [e2]; omega
  · show off + i.val = off + 1 * i.val; omega

/-- The first channels are the first level. -/
theorem out0 (w : Fin 120 → EReal) (i : Fin 8) : Spec.l0 w i = Spec.out w ⟨0 + i.val, by omega⟩ := by
  unfold Spec.out
  rw [dif_pos (show 0 + i.val < 8 by omega)]
  exact congrArg _ (Fin.ext (Nat.zero_add _).symm)
/-- The next channels are the second level. -/
theorem out1 (w : Fin 120 → EReal) (i : Fin 16) : Spec.l1 w i = Spec.out w ⟨8 + i.val, by omega⟩ := by
  unfold Spec.out
  rw [dif_neg (show ¬ 8 + i.val < 8 by omega), dif_pos (show 8 + i.val < 24 by omega)]
  exact congrArg _ (Fin.ext (by show i.val = 8 + i.val - 8; omega))
/-- The next channels are the third level. -/
theorem out2 (w : Fin 120 → EReal) (i : Fin 32) : Spec.l2 w i = Spec.out w ⟨24 + i.val, by omega⟩ := by
  unfold Spec.out
  rw [dif_neg (show ¬ 24 + i.val < 8 by omega), dif_neg (show ¬ 24 + i.val < 24 by omega), dif_pos (show 24 + i.val < 56 by omega)]
  exact congrArg _ (Fin.ext (by show i.val = 24 + i.val - 24; omega))
/-- The last channels are the fourth level. -/
theorem out3 (w : Fin 120 → EReal) (i : Fin 64) : Spec.l3 w i = Spec.out w ⟨56 + i.val, by omega⟩ := by
  unfold Spec.out
  rw [dif_neg (show ¬ 56 + i.val < 8 by omega), dif_neg (show ¬ 56 + i.val < 24 by omega), dif_neg (show ¬ 56 + i.val < 56 by omega)]
  exact congrArg _ (Fin.ext (by show i.val = 56 + i.val - 56; omega))

include h1 h2 h3

/-- Every stored piece agrees with the block. -/
theorem pieces_agree : ∀ p ∈ pieces v t1 t2 t3, ∀ x : p.1.shape.Idx, p.2 x = block v (p.1.emb x) := by
  have w0 := fun i l => (m0_apply v l i).trans (out0 _ i)
  have w1 := fun i l => (m1_apply v t1 l h1 i).trans (out1 _ i)
  have w2 := fun i l => (m2_apply v t1 t2 l h1 h2 i).trans (out2 _ i)
  have w3 := fun i l => (m3_apply v t1 t2 t3 l h1 h2 h3 i).trans (out3 _ i)
  unfold pieces
  iterate 8 refine List.forall_mem_cons.2 ⟨row_apply (N := 64) v 56 _ _ _ (by omega) _ _ _ (by omega) (by omega) w3, ?_⟩
  iterate 8 refine List.forall_mem_cons.2 ⟨row_apply (N := 32) v 24 _ _ _ (by omega) _ _ _ (by omega) (by omega) w2, ?_⟩
  iterate 8 refine List.forall_mem_cons.2 ⟨row_apply (N := 16) v 8 _ _ _ (by omega) _ _ _ (by omega) (by omega) w1, ?_⟩
  iterate 8 refine List.forall_mem_cons.2 ⟨row_apply (N := 8) v 0 _ _ _ (by omega) _ _ _ (by omega) (by omega) w0, ?_⟩
  exact fun p hp => absurd hp List.not_mem_nil

end Cert.Proof.KernelLevel
end
-- ==== Proof.KernelValue.lean ====
/-
  WHAT THE KERNEL LEAVES. A grid point's output block at its coordinates, the blocks put together to the array, and the array as the specification's result.
-/
module

public import proofs.«01_k».proof.Proof.KernelInputs
public import proofs.«01_k».proof.Proof.KernelLevel
public import proofs.«01_k».proof.Proof.Gen.KernelIdeal.Value

@[expose] public section

set_option maxRecDepth 16384

noncomputable section

namespace Cert.Proof.KernelValue

open Idealize Idealize.ShloMosaic Idealize.ShloMosaic.Pipeline Idealize.ShloMosaic.ValueIdx Idealize.ShloMosaic.TcCoe Cert.KernelIdeal Cert.KernelIdeal.Gen
open Cert.Proof.KernelBlock Cert.Proof.KernelLevel Cert.Proof.KernelConv Cert.Proof.KernelInputs

variable (m : (ℓ : Loc nD τ sig) → Buf (Elt Ideal) ℓ) (c : Dev nD)

/-- The result: at every image, row and column, the gated activations. -/
def result (x : FVec Ideal S4x96x224x224 .f32) (W : FVec Ideal S120x96x3x3 .f32) (bias : FVec Ideal S120 .f32) : FVec Ideal S4x120x222x222 .f32 :=
  fun i => Spec.out (Spec.act x W bias (i 0) (i 2) (i 3)) (i 1)

/-- The activations a grid point computes. -/
def acts (t : Fin cfg0.N) : FVec Ideal S120x1792 .f32 := conv (F := Ideal) (iblk m c 0 t) (iblk m c 1 t) (iblk m c 2 t) (iblk m c 3 t)

/-- What a grid point leaves in its output block. -/
theorem out_eq (t : Fin cfg0.N) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (iblk m c 0 t) (iblk m c 1 t) (iblk m c 2 t) (iblk m c 3 t) (iblk m c 4 t) (iblk m c 5 t) (iblk m c 6 t) = block (acts m c t) := by
  have hcov := cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      (iblk m c 0 t) (iblk m c 1 t) (iblk m c 2 t) (iblk m c 3 t) (iblk m c 4 t) (iblk m c 5 t) (iblk m c 6 t)
  unfold out0_A_7
  rw [run_pieces] at hcov ⊢
  rw [View.read_writes_eq_canon _ _ _ hcov]
  funext y
  exact View.canon_apply_of_pieces (block (acts m c t)) _ (pieces_agree (acts m c t) _ _ _ (links0 m c t) (links1 m c t) (links2 m c t)) y (hcov y)

/-- A grid point's activations at a lane inside the image: the convolution there. -/
theorem acts_apply (t : Fin cfg0.N) (b : Fin 4) (r x : Fin 222) (y2 : Fin 8) (l : Fin 1792) (hb : b.val = win0_7.index t (0 : Fin 4))
    (hr : r.val = win0_7.index t (2 : Fin 4) * 8 + y2.val) (hl : l.val = 224 * y2.val + x.val) (o : Fin 120) :
    acts m c t (ix2 o l) = Spec.act (m ((c : Thread nD τ).loc main_arg0)) (m ((c : Thread nD τ).loc main_arg1)) (m ((c : Thread nD τ).loc main_arg2)) b r x o := by
  obtain ⟨-, -, hi, -⟩ := index_facts t
  have hx := x.isLt
  have hr' := r.isLt
  have hy := y2.isLt
  refine conv_eq_act _ _ _ _ _ _ _ b r x l ?_ ?_ ?_ o
  · intro k dy dx
    have hdy := dy.isLt
    have hdx := dx.isLt
    unfold slab
    split
    case isTrue h =>
      refine (block0_apply m c t k _ b ⟨win0_7.index t (2 : Fin 4) * 1792 + (224 * dy.val + dx.val + l.val), by omega⟩ hb rfl).trans ?_
      refine v0_apply m c b k _ _ _ ?_
      show win0_7.index t (2 : Fin 4) * 1792 + (224 * dy.val + dx.val + l.val) = 224 * (r.val + dy.val) + (x.val + dx.val)
      omega
    case isFalse h =>
      refine (block1_apply m c t k _ b ⟨min (2 * win0_7.index t (2 : Fin 4) + 2) 55 * 896 + (224 * dy.val + dx.val + l.val - 1792), by omega⟩ hb rfl).trans ?_
      refine v0_apply m c b k _ _ _ ?_
      show min (2 * win0_7.index t (2 : Fin 4) + 2) 55 * 896 + (224 * dy.val + dx.val + l.val - 1792) = 224 * (r.val + dy.val) + (x.val + dx.val)
      omega
  · intro dy dx o k
    rw [block2_eq]
    exact v2_apply m c dy dx o k _ rfl
  · intro o
    rw [block3_eq]
    exact v3_apply m c o

/-- A grid point's output block at a row inside the image: the result there. -/
theorem block_apply (t : Fin cfg0.N) (y : S1x120x8x222.Idx) (i : S4x120x222x222.Idx) (h0 : (i 0).val = win0_7.index t (0 : Fin 4)) (h1 : (i 1).val = (y 1).val)
    (h2 : (i 2).val = win0_7.index t (2 : Fin 4) * 8 + (y 2).val) (h3 : (i 3).val = (y 3).val) :
    block (acts m c t) y = result (m ((c : Thread nD τ).loc main_arg0)) (m ((c : Thread nD τ).loc main_arg1)) (m ((c : Thread nD τ).loc main_arg2)) i := by
  unfold block result
  refine congr (congrArg Spec.out (funext fun o => ?_)) (Fin.ext h1.symm)
  exact acts_apply m c t (i 0) (i 2) (i 3) (y 2) _ h0 h2 (congrArg (224 * (y 2).val + ·) h3.symm) o

/-- What a grid point writes back is its block of the result. -/
theorem flushed_eq (t : Fin cfg0.N) : (dats m 0 c).flushed 7 t = ((cfg0.win 7).blk t).view.read (Elt Ideal)
    (result (m ((c : Thread nD τ).loc main_arg0)) (m ((c : Thread nD τ).loc main_arg1)) (m ((c : Thread nD τ).loc main_arg2))) := by
  rw [Value.flushed7_A, out_eq]
  obtain ⟨-, e1, -, e3, -⟩ := index_facts t
  obtain ⟨s0, -⟩ := size_facts t
  funext j
  have hj : (j 0).val = 0 := by
    have h : (j 0).val < win0_7.xsize (grid0.coords t) (0 : Fin 4) := (j 0).isLt
    omega
  show block (acts m c t) (win0_7.xinj (grid0.coords t) j) = result _ _ _ ((win0_7.rect t).emb j)
  refine block_apply m c t _ _ ?_ ?_ ?_ ?_
  · refine (win0_7.rect_emb_val t j 0).trans ?_
    show win0_7.index t (0 : Fin 4) * 1 + (j 0).val = win0_7.index t (0 : Fin 4)
    omega
  · refine (win0_7.rect_emb_val t j 1).trans ?_
    show win0_7.index t (1 : Fin 4) * 120 + (j 1).val = (j 1).val
    omega
  · exact win0_7.rect_emb_val t j 2
  · refine (win0_7.rect_emb_val t j 3).trans ?_
    show win0_7.index t (3 : Fin 4) * 222 + (j 3).val = (j 3).val
    omega

/-- A point's block by coordinates. -/
theorem mem_blk (t : Fin cfg0.N) (i : S4x120x222x222.Idx) : i ∈ ((cfg0.win 7).blk t).view.set
    ↔ ∀ a, win0_7.index t a * win0_7.size a ≤ (i a).val ∧ (i a).val < win0_7.index t a * win0_7.size a + win0_7.xsize (grid0.coords t) a := by
  show i ∈ ((View.whole main_v4).slice (win0_7.rect t)).set ↔ _
  rw [View.set_slice_whole, Rect.mem_set_unit]

/-- THE KERNEL'S RESULT: the output array after the run. -/
theorem array_eq : (dats m 0 c).arrAt 7 cfg0.N
    = result (m ((c : Thread nD τ).loc main_arg0)) (m ((c : Thread nD τ).loc main_arg1)) (m ((c : Thread nD τ).loc main_arg2)) := by
  refine (dats m 0 c).arrAt_eq_of_cover 7 _ (fun t _ => flushed_eq m c t) fun i => ?_
  have i0 : (i 0).val < 4 := (i 0).isLt
  have i1 : (i 1).val < 120 := (i 1).isLt
  have i2 : (i 2).val < 222 := (i 2).isLt
  have i3 : (i 3).val < 222 := (i 3).isLt
  obtain ⟨t, h0, h2⟩ := index_onto ⟨(i 0).val, i0⟩ ⟨(i 2).val / 8, by omega⟩
  obtain ⟨-, e1, -, e3, -⟩ := index_facts t
  obtain ⟨s0, s1, s2, s3⟩ := size_facts t
  refine ⟨t, flush0_7 t, ?_⟩
  rw [mem_blk]
  intro a
  match a with
  | ⟨0, _⟩ =>
    show win0_7.index t (0 : Fin 4) * 1 ≤ (i 0).val ∧ (i 0).val < win0_7.index t (0 : Fin 4) * 1 + win0_7.xsize (grid0.coords t) (0 : Fin 4)
    rw [h0, s0]; show (i 0).val * 1 ≤ (i 0).val ∧ (i 0).val < (i 0).val * 1 + 1; omega
  | ⟨1, _⟩ =>
    show win0_7.index t (1 : Fin 4) * 120 ≤ (i 1).val ∧ (i 1).val < win0_7.index t (1 : Fin 4) * 120 + win0_7.xsize (grid0.coords t) (1 : Fin 4)
    rw [e1, s1]; omega
  | ⟨2, _⟩ =>
    show win0_7.index t (2 : Fin 4) * 8 ≤ (i 2).val ∧ (i 2).val < win0_7.index t (2 : Fin 4) * 8 + win0_7.xsize (grid0.coords t) (2 : Fin 4)
    rw [s2, h2]; show (i 2).val / 8 * 8 ≤ (i 2).val ∧ (i 2).val < (i 2).val / 8 * 8 + min 8 (222 - 8 * ((i 2).val / 8)); omega
  | ⟨3, _⟩ =>
    show win0_7.index t (3 : Fin 4) * 222 ≤ (i 3).val ∧ (i 3).val < win0_7.index t (3 : Fin 4) * 222 + win0_7.xsize (grid0.coords t) (3 : Fin 4)
    rw [e3, s3]; omega

end Cert.Proof.KernelValue
end
-- ==== Proof.TopScatter.lean ====
/-
  THE REFERENCE'S TOP-k, READ AT AN INDEX. `Host.topK` along the last axis lists positions by rank (Rank.lean); the scatter that sets a filled
  array at the listed positions leaves the value where the rank is below `k` and the fill elsewhere. Stated once for `C` channels and `k` places.
-/
module

public import proofs.«01_k».proof.Proof.Rank
public import Idealize.ShloMosaic.Lib.Routing.OpsPair
public import Idealize.ShloMosaic.Lib.Pipeline.Value
public import Idealize.ShloMosaic.Lib.ValueIdx
public import Idealize.ShloMosaic.Lib.StableHlo.Predicate

@[expose] public section

set_option maxRecDepth 16384

noncomputable section

namespace Cert.Proof.TopScatter

open Idealize Idealize.ShloMosaic Idealize.ShloMosaic.ValueIdx Idealize.ShloMosaic.Routing

/-- Channels last: images by rows by columns by `C` channels. -/
abbrev sC (C : Nat) : Shape := ⟨4, ![4, 222, 222, C]⟩
/-- The index words: four for each of `k` places at each pixel. -/
abbrev sI (k : Nat) : Shape := ⟨5, ![4, 222, 222, k, 4]⟩

variable {C k : Nat}

/-! ## Top-k -/

/-- Replacing the channel coordinate of an index. -/
theorem along_three (b : Fin 4) (r c : Fin 222) (i q : Fin C) :
    Shape.Idx.along (s := sC C) (ix4 b r c i) 3 q = ix4 b r c q := by
  funext a
  unfold Shape.Idx.along
  match a with
  | ⟨0, _⟩ => exact Function.update_of_ne (Fin.ne_of_val_ne (by show (0 : Nat) ≠ 3; omega)) _ _
  | ⟨1, _⟩ => exact Function.update_of_ne (Fin.ne_of_val_ne (by show (1 : Nat) ≠ 3; omega)) _ _
  | ⟨2, _⟩ => exact Function.update_of_ne (Fin.ne_of_val_ne (by show (2 : Nat) ≠ 3; omega)) _ _
  | ⟨3, _⟩ => exact Function.update_self (β := fun a => Fin ((sC C).size a)) 3 q _

/-- A stable sort along the channels with the channel numbers carried: at place `i`, the channel of rank `i`. -/
theorem sort2_apply (x : FVec Ideal (sC C) .f32) (y : IVec (sC C) 32) (b : Fin 4) (r c : Fin 222) (i : Fin C) :
    ∃ p : Fin C, Rank.rank (α := EReal) (fun i : Fin C => x (ix4 b r c i)) p = i.val
      ∧ (Host.sort2 (sC C) 3 (fun l r => FloatOps.cmpfTotal (F := Ideal) (φ := .f32) .gt l.1 r.1) x y).1 (ix4 b r c i) = x (ix4 b r c p)
      ∧ (Host.sort2 (sC C) 3 (fun l r => FloatOps.cmpfTotal (F := Ideal) (φ := .f32) .gt l.1 r.1) x y).2 (ix4 b r c i) = y (ix4 b r c p) := by
  have hd : 3 < (sC C).rank := by show 3 < 4; omega
  have e : ∀ q : Fin C, Shape.Idx.along (s := sC C) (ix4 b r c i) ⟨3, hd⟩ q = ix4 b r c q := along_three b r c i
  refine ⟨_, Rank.rank_sortedFrom (α := EReal) (fun i : Fin C => x (ix4 b r c i))
    (fun q q' => FloatOps.cmpfTotal (F := Ideal) (φ := .f32) .gt (x (Shape.Idx.along (s := sC C) (ix4 b r c i) ⟨3, hd⟩ q))
      (x (Shape.Idx.along (s := sC C) (ix4 b r c i) ⟨3, hd⟩ q')) == 1#1)
    (fun a a' => ?_) i, ?_, ?_⟩
  · rw [e, e]
    show (BitVec.ofBool (decide (x (ix4 b r c a') < x (ix4 b r c a))) == 1#1) = true ↔ _
    rw [beq_iff_eq, WordCmp.ofBool_decide_eq_one_iff]
  · refine Eq.trans ?_ (congrArg x (e _))
    unfold Host.sort2
    rw [dif_pos hd]
    rfl
  · refine Eq.trans ?_ (congrArg y (e _))
    unfold Host.sort2
    rw [dif_pos hd]
    rfl

/-- Place `j` of a pixel's top-k holds the value, and the number, of the channel of rank `j`. -/
theorem topK_apply (x : FVec Ideal (sC C) .f32) (h : (sC C).Slices (fun _ => 0) (sC k)) (hk : k ≤ C)
    (b : Fin 4) (r c : Fin 222) (j : Fin k) :
    ∃ p : Fin C, Rank.rank (α := EReal) (fun i : Fin C => x (ix4 b r c i)) p = j.val
      ∧ (Host.topK (sC k) 3 (FloatOps.cmpfTotal (F := Ideal) (φ := .f32) .gt) x h).1 (ix4 b r c j) = x (ix4 b r c p)
      ∧ (Host.topK (sC k) 3 (FloatOps.cmpfTotal (F := Ideal) (φ := .f32) .gt) x h).2 (ix4 b r c j) = BitVec.ofNat 32 p.val := by
  have hd : 3 < (sC C).rank := by show 3 < 4; omega
  have hj : j.val < C := lt_of_lt_of_le j.isLt hk
  obtain ⟨p, hp, h1, h2⟩ := sort2_apply x (fun i => if hd : 3 < (sC C).rank then iotaInDim (sC C) 32 ⟨3, hd⟩ i else 0#32) b r c ⟨j.val, hj⟩
  have hs : ∀ a : Fin 4, ((ix4 b r c (⟨j.val, hj⟩ : Fin C) : (sC C).Idx) a).val = 0 + ((ix4 b r c j : (sC k).Idx) a).val := fun a => by
    match a with
    | ⟨0, _⟩ => show b.val = 0 + b.val; omega
    | ⟨1, _⟩ => show r.val = 0 + r.val; omega
    | ⟨2, _⟩ => show c.val = 0 + c.val; omega
    | ⟨3, _⟩ => show j.val = 0 + j.val; omega
  refine ⟨p, hp, ?_, ?_⟩
  · exact (extractStridedSlice_apply (fun _ => 0) _ h (ix4 b r c j) (ix4 b r c (⟨j.val, hj⟩ : Fin C)) hs).trans h1
  · refine (extractStridedSlice_apply (fun _ => 0) _ h (ix4 b r c j) (ix4 b r c (⟨j.val, hj⟩ : Fin C)) hs).trans (h2.trans ?_)
    rw [dif_pos hd]
    rfl

/-! ## The scatter -/

/-- A fold that may set an accumulator to one value: that value when it sets at all. -/
theorem fold_set {ι β : Type} (P : ι → Prop) [DecidablePred P] (v : ι → β) (y : β) (hv : ∀ n, P n → v n = y) :
    ∀ (l : List ι) (e : β), l.foldl (fun a n => if P n then v n else a) e = if ∃ n ∈ l, P n then y else e
  | [], e => by simp
  | n :: l, e => by
    rw [List.foldl_cons, fold_set P v y hv l]
    by_cases hl : ∃ n ∈ l, P n
    · rw [if_pos hl, if_pos (hl.imp fun m hm => ⟨List.mem_cons_of_mem _ hm.1, hm.2⟩)]
    · rw [if_neg hl]
      by_cases hn : P n
      · rw [if_pos hn, if_pos ⟨n, List.mem_cons_self, hn⟩, hv n hn]
      · rw [if_neg hn, if_neg]
        rintro ⟨m, hm, hP⟩
        rcases List.mem_cons.1 hm with rfl | hm
        · exact hn hP
        · exact hl ⟨m, hm, hP⟩

/-- The reference's scatter: each update is one element, its place named on every axis by the last axis of the index words. -/
abbrev sd (C k : Nat) (wf : ScatterDims.WF (sC C) (sI k) (sC k) [] [0, 1, 2, 3] [0, 1, 2, 3] 4) : ScatterDims (sC C) (sI k) (sC k) where
  updateWindowDims := []
  insertedWindowDims := [0, 1, 2, 3]
  scatterDimsToOperandDims := [0, 1, 2, 3]
  indexVectorDim := 4
  wf := wf

/-- Update `(b, r, c, j)` reads word `q` of its place at `(b, r, c, j, q)`. -/
theorem siIdx_eq (wf) (b : Fin 4) (r c : Fin 222) (j : Fin k) (q : Fin 4) :
    (sd C k wf).siIdx (ix4 b r c j) q = ix5 b r c j q := by
  funext a
  apply Fin.ext
  match a with
  | ⟨0, _⟩ => rfl
  | ⟨1, _⟩ => rfl
  | ⟨2, _⟩ => rfl
  | ⟨3, _⟩ => rfl
  | ⟨4, _⟩ => rfl

/-- Update `(b, r, c, j)` lands at `i` exactly when its four words, read signed, are the coordinates of `i`. -/
theorem lands (wf) (idx : IVec (sI k) 32) (b : Fin 4) (r c : Fin 222) (j : Fin k) (i : (sC C).Idx) :
    (sd C k wf).resultIdx? (ix4 b r c j) idx = some i ↔ ∀ q : Fin 4, (idx (ix5 b r c j q)).toInt = ((i q).val : Int) := by
  rw [resultIdx?_eq_some]
  refine forall_congr' fun q => ?_
  have h0 : (sd C k wf).window (ix4 b r c j) q = 0 := by
    match q with
    | ⟨0, _⟩ => rfl
    | ⟨1, _⟩ => rfl
    | ⟨2, _⟩ => rfl
    | ⟨3, _⟩ => rfl
  have h1 : (sd C k wf).start (ix4 b r c j) idx q = (idx (ix5 b r c j q)).toInt := by
    match q with
    | ⟨0, _⟩ => exact congrArg (fun z => (idx z).toInt) (siIdx_eq wf b r c j 0)
    | ⟨1, _⟩ => exact congrArg (fun z => (idx z).toInt) (siIdx_eq wf b r c j 1)
    | ⟨2, _⟩ => exact congrArg (fun z => (idx z).toInt) (siIdx_eq wf b r c j 2)
    | ⟨3, _⟩ => exact congrArg (fun z => (idx z).toInt) (siIdx_eq wf b r c j 3)
  rw [h0, h1]
  simp

/-- **The scatter of a pixel's top-k over a filled array**: the value at the channels whose rank is below `k`, the fill at the others. -/
theorem scatter_topK (wf) (x : FVec Ideal (sC C) .f32) (h : (sC C).Slices (fun _ => 0) (sC k)) (hk : k ≤ C) (hC : C ≤ 2 ^ 31)
    (fill : FVec Ideal (sC C) .f32) (idx : IVec (sI k) 32)
    (h0 : ∀ (b : Fin 4) (r c : Fin 222) (j : Fin k), idx (ix5 b r c j 0) = BitVec.ofNat 32 b.val)
    (h1 : ∀ (b : Fin 4) (r c : Fin 222) (j : Fin k), idx (ix5 b r c j 1) = BitVec.ofNat 32 r.val)
    (h2 : ∀ (b : Fin 4) (r c : Fin 222) (j : Fin k), idx (ix5 b r c j 2) = BitVec.ofNat 32 c.val)
    (h3 : ∀ (b : Fin 4) (r c : Fin 222) (j : Fin k),
      idx (ix5 b r c j 3) = (Host.topK (sC k) 3 (FloatOps.cmpfTotal (F := Ideal) (φ := .f32) .gt) x h).2 (ix4 b r c j))
    (b : Fin 4) (r c : Fin 222) (i : Fin C) :
    Host.scatter (sd C k wf) (fun _ y => y) fill idx
        (Host.topK (sC k) 3 (FloatOps.cmpfTotal (F := Ideal) (φ := .f32) .gt) x h).1 (ix4 b r c i)
      = if Rank.rank (α := EReal) (fun i : Fin C => x (ix4 b r c i)) i < k then x (ix4 b r c i) else fill (ix4 b r c i) := by
  have key : ∀ (b' : Fin 4) (r' c' : Fin 222) (j : Fin k), ∃ p : Fin C,
      Rank.rank (α := EReal) (fun i : Fin C => x (ix4 b' r' c' i)) p = j.val
        ∧ (Host.topK (sC k) 3 (FloatOps.cmpfTotal (F := Ideal) (φ := .f32) .gt) x h).1 (ix4 b' r' c' j) = x (ix4 b' r' c' p)
        ∧ ((sd C k wf).resultIdx? (ix4 b' r' c' j) idx = some (ix4 b r c i) ↔ b' = b ∧ r' = r ∧ c' = c ∧ p = i) := by
    intro b' r' c' j
    obtain ⟨p, hp, hv, hi⟩ := topK_apply x h hk b' r' c' j
    refine ⟨p, hp, hv, ?_⟩
    have hb := b'.isLt; have hr := r'.isLt; have hc := c'.isLt; have hq := p.isLt
    have e0 : (idx (ix5 b' r' c' j 0)).toInt = b'.val := by rw [h0, StableHlo.Predicate.toInt_ofNat_small _ (by omega)]
    have e1 : (idx (ix5 b' r' c' j 1)).toInt = r'.val := by rw [h1, StableHlo.Predicate.toInt_ofNat_small _ (by omega)]
    have e2 : (idx (ix5 b' r' c' j 2)).toInt = c'.val := by rw [h2, StableHlo.Predicate.toInt_ofNat_small _ (by omega)]
    have e3 : (idx (ix5 b' r' c' j 3)).toInt = p.val := by rw [h3, hi, StableHlo.Predicate.toInt_ofNat_small _ (by omega)]
    rw [lands, Fin.forall_fin_succ, Fin.forall_fin_succ, Fin.forall_fin_succ, Fin.forall_fin_one]
    refine (and_congr (Iff.of_eq (congrArg (· = _) e0)) (and_congr (Iff.of_eq (congrArg (· = _) e1))
      (and_congr (Iff.of_eq (congrArg (· = _) e2)) (Iff.of_eq (congrArg (· = _) e3))))).trans ?_
    show ((b'.val : Int) = (b.val : Int) ∧ (r'.val : Int) = (r.val : Int) ∧ (c'.val : Int) = (c.val : Int) ∧ (p.val : Int) = (i.val : Int)) ↔ _
    simp only [Int.natCast_inj, Fin.val_inj]
  have all : ∀ J : (sC k).Idx, ∃ (b' : Fin 4) (r' c' : Fin 222) (j : Fin k), J = ix4 b' r' c' j := fun J =>
    ⟨J 0, J 1, J 2, J 3, eq_ix4 J⟩
  have hset : ∀ n : Fin (sC k).numel, (sd C k wf).resultIdx? ((sC k).rowMajor.symm n) idx = some (ix4 b r c i) →
      (Host.topK (sC k) 3 (FloatOps.cmpfTotal (F := Ideal) (φ := .f32) .gt) x h).1 ((sC k).rowMajor.symm n) = x (ix4 b r c i) := by
    intro n hn
    obtain ⟨b', r', c', j, hJ⟩ := all ((sC k).rowMajor.symm n)
    rw [hJ] at hn ⊢
    obtain ⟨p, hp, hv, hl⟩ := key b' r' c' j
    obtain ⟨e0, e1, e2, e3⟩ := hl.1 hn
    rw [hv, e0, e1, e2, e3]
  rw [scatter_at, fold_set _ _ (x (ix4 b r c i)) hset]
  by_cases hi : Rank.rank (α := EReal) (fun i : Fin C => x (ix4 b r c i)) i < k
  · rw [if_pos hi]
    obtain ⟨p, hp, -, hl⟩ := key b r c ⟨_, hi⟩
    refine if_pos ⟨(sC k).rowMajor (ix4 b r c ⟨_, hi⟩), List.mem_finRange _, ?_⟩
    rw [Equiv.symm_apply_apply]
    exact hl.2 ⟨rfl, rfl, rfl, Rank.rank_injective _ hp⟩
  · rw [if_neg hi]
    refine if_neg ?_
    rintro ⟨n, -, hn⟩
    obtain ⟨b', r', c', j, hJ⟩ := all ((sC k).rowMajor.symm n)
    rw [hJ] at hn
    obtain ⟨p, hp, -, hl⟩ := key b' r' c' j
    obtain ⟨e0, e1, e2, e3⟩ := hl.1 hn
    rw [e0, e1, e2, e3] at hp
    exact hi (hp ▸ j.isLt)

end Cert.Proof.TopScatter

end
-- ==== Proof.RefMask.lean ====
/-
  THE REFERENCE'S MASK, once for `C` channels and `k` kept. The index words are the image, row and column numbers and the listed channel, each
  passed through the wrap of negative numbers and joined; with them the scatter, the comparison against the fill and the product are `Spec.keep`.
-/
module

public import proofs.«01_k».proof.Proof.TopScatter
public import proofs.«01_k».proof.Proof.Spec

@[expose] public section

set_option maxRecDepth 16384

noncomputable section

namespace Cert.Proof.RefMask

open Idealize Idealize.ShloMosaic Idealize.ShloMosaic.ValueIdx Idealize.ShloMosaic.Routing Cert.Proof.TopScatter

/-- The scalar shape. -/
abbrev s0 : Shape := ⟨0, ![]⟩
/-- The shape of one index word at each place. -/
abbrev sJ (k : Nat) : Shape := ⟨5, ![4, 222, 222, k, 1]⟩
/-- The shapes in which the image, row and column numbers are laid out. -/
abbrev sL (a b c : Nat) : Shape := ⟨4, ![a, b, c, 1]⟩

variable {C k : Nat}

/-- The wrap of negative index words by an extent, as the reference writes it. -/
def wrapped (s : Shape) (h : s0.BroadcastsInDim s ![]) (n : BitVec 32) (y : IVec s 32) : IVec s 32 :=
  select (cmpi .slt y (broadcastInDim s ![] h (constantI s0 32 0#32))) (addi y (broadcastInDim s ![] h (constantI s0 32 n))) y

/-- The wrap leaves a small word alone. -/
theorem wrapped_apply (s : Shape) (h : s0.BroadcastsInDim s ![]) (n : BitVec 32) (y : IVec s 32) (j : s.Idx) (hy : (y j).toNat < 2 ^ 31) :
    wrapped s h n y j = y j := by
  show Scalar.select (IntOp.cmpi .slt (y j) (0#32)) _ (y j) = y j
  exact wrap_of_lt (y j) _ hy

/-- One coordinate's words at every place: the coordinate's numbers, wrapped, spread over the places, with a last axis of one. -/
def coordWords (k : Nat) (l : Shape) (d : Fin 1 → Fin l.rank) (n : Nat) (e : BitVec 32) (hl : Shape.BroadcastsInDim ⟨1, ![n]⟩ l d)
    (h0 : s0.BroadcastsInDim l ![]) (d4 : Fin l.rank → Fin 4) (h4 : l.BroadcastsInDim (sC k) d4)
    (h5 : (sC k).BroadcastsInDim (sJ k) ![0, 1, 2, 3]) : IVec (sJ k) 32 :=
  broadcastInDim (sJ k) ![0, 1, 2, 3] h5 (broadcastInDim (sC k) d4 h4 (wrapped l h0 e (broadcastInDim l d hl (iotaInDim ⟨1, ![n]⟩ 32 0))))

/-- A last axis of one added: the place's own word. -/
theorem lastAxis_apply {α : Type} (h5 : (sC k).BroadcastsInDim (sJ k) ![0, 1, 2, 3]) (y : (sC k).Idx → α) (b : Fin 4) (r c : Fin 222) (j : Fin k) (z : Fin 1) :
    broadcastInDim (sJ k) ![0, 1, 2, 3] h5 y (ix5 b r c j z) = y (ix4 b r c j) := by
  refine broadcastInDim_apply _ h5 y _ _ fun a => ?_
  match a with
  | ⟨0, _⟩ => show b.val = if (4 : Nat) = 1 then 0 else b.val; rw [if_neg (by decide)]
  | ⟨1, _⟩ => show r.val = if (222 : Nat) = 1 then 0 else r.val; rw [if_neg (by decide)]
  | ⟨2, _⟩ => show c.val = if (222 : Nat) = 1 then 0 else c.val; rw [if_neg (by decide)]
  | ⟨3, _⟩ =>
    show j.val = if k = 1 then 0 else j.val
    have := j.isLt
    split <;> omega

/-- The words of one coordinate, read: the place's coordinate. `p` is the coordinate's position in the four-axis layout. -/
theorem coordWords_apply (l : Shape) (d : Fin 1 → Fin l.rank) (n : Nat) (e : BitVec 32) (hl : Shape.BroadcastsInDim ⟨1, ![n]⟩ l d)
    (h0 : s0.BroadcastsInDim l ![]) (d4 : Fin l.rank → Fin 4) (h4 : l.BroadcastsInDim (sC k) d4)
    (h5 : (sC k).BroadcastsInDim (sJ k) ![0, 1, 2, 3]) (b : Fin 4) (r c : Fin 222) (j : Fin k) (q : l.Idx) (p : Fin n)
    (hn : n ≤ 2 ^ 31) (hq : ∀ a : Fin l.rank, (q a).val = if l.size a = 1 then 0 else ((ix4 b r c j : (sC k).Idx) (d4 a)).val)
    (hp : p.val = if n = 1 then 0 else (q (d 0)).val) :
    coordWords k l d n e hl h0 d4 h4 h5 (ix5 b r c j 0) = BitVec.ofNat 32 p.val := by
  unfold coordWords
  rw [lastAxis_apply, broadcastInDim_apply _ h4 _ _ q hq]
  have hi : broadcastInDim l d hl (iotaInDim ⟨1, ![n]⟩ 32 0) q = BitVec.ofNat 32 p.val := by
    rw [broadcastInDim_apply _ hl _ _ (ix1 p) (fun a => by
      match a with
      | ⟨0, _⟩ => exact hp)]
    rfl
  rw [wrapped_apply, hi]
  rw [hi, BitVec.toNat_ofNat]
  have := p.isLt
  exact lt_of_le_of_lt (Nat.mod_le _ _) (by omega)

/-- All four index words at every place. -/
def words (C k : Nat) (ind : IVec (sC k) 32) (hb : Shape.BroadcastsInDim ⟨1, ![4]⟩ (sL 4 1 1) ![0]) (hr : Shape.BroadcastsInDim ⟨1, ![222]⟩ (sL 1 222 1) ![1])
    (hc : Shape.BroadcastsInDim ⟨1, ![222]⟩ (sL 1 1 222) ![2]) (zb : s0.BroadcastsInDim (sL 4 1 1) ![]) (zr : s0.BroadcastsInDim (sL 1 222 1) ![])
    (zc : s0.BroadcastsInDim (sL 1 1 222) ![]) (zk : s0.BroadcastsInDim (sC k) ![]) (sb : (sL 4 1 1).BroadcastsInDim (sC k) ![0, 1, 2, 3])
    (sr : (sL 1 222 1).BroadcastsInDim (sC k) ![0, 1, 2, 3]) (sc : (sL 1 1 222).BroadcastsInDim (sC k) ![0, 1, 2, 3])
    (h5 : (sC k).BroadcastsInDim (sJ k) ![0, 1, 2, 3]) (hh : Shape.Concatenates [sJ k, sJ k, sJ k, sJ k] (sI k) 4) : IVec (sI k) 32 :=
  concatenate (sI k) 4
    [⟨sJ k, coordWords k (sL 4 1 1) ![0] 4 4#32 hb zb ![0, 1, 2, 3] sb h5⟩, ⟨sJ k, coordWords k (sL 1 222 1) ![1] 222 222#32 hr zr ![0, 1, 2, 3] sr h5⟩,
     ⟨sJ k, coordWords k (sL 1 1 222) ![2] 222 222#32 hc zc ![0, 1, 2, 3] sc h5⟩,
     ⟨sJ k, broadcastInDim (sJ k) ![0, 1, 2, 3] h5 (wrapped (sC k) zk (BitVec.ofNat 32 C) ind)⟩] hh

/-- Four one-word arrays joined on the last axis: word `m` comes from array `m`. -/
theorem join_apply (y0 y1 y2 y3 : IVec (sJ k) 32) (hh : Shape.Concatenates [sJ k, sJ k, sJ k, sJ k] (sI k) 4) (b : Fin 4) (r c : Fin 222) (j : Fin k) (m : Fin 4) :
    concatenate (sI k) 4 [⟨sJ k, y0⟩, ⟨sJ k, y1⟩, ⟨sJ k, y2⟩, ⟨sJ k, y3⟩] hh (ix5 b r c j m) = ![y0, y1, y2, y3] m (ix5 b r c j 0) := by
  refine concatenate_apply_piece (t := sI k) 4 [⟨sJ k, y0⟩, ⟨sJ k, y1⟩, ⟨sJ k, y2⟩, ⟨sJ k, y3⟩] hh (ix5 b r c j m) m.val m.isLt (sJ k) (![y0, y1, y2, y3] m) ?_ rfl m.val ?_ (ix5 b r c j 0) ?_ ?_
  · match m with
    | 0 => rfl
    | 1 => rfl
    | 2 => rfl
    | 3 => rfl
  · match m with
    | 0 => rfl
    | 1 => rfl
    | 2 => rfl
    | 3 => rfl
  · intro a ha
    match a with
    | ⟨0, _⟩ => rfl
    | ⟨1, _⟩ => rfl
    | ⟨2, _⟩ => rfl
    | ⟨3, _⟩ => rfl
    | ⟨4, _⟩ => exact absurd rfl ha
  · rfl

/-- The mask at a pixel: with `at` the channels-last array, its magnitudes listed and scattered over the fill, the product with the comparison
    against the fill is the kept entries. -/
theorem masked_apply (wf) (a : FVec Ideal (sC C) .f32) (h : (sC C).Slices (fun _ => 0) (sC k)) (hk : k ≤ C) (hC : C ≤ 2 ^ 31)
    (fill : FVec Ideal (sC C) .f32) (hf : ∀ i, fill i = Ideal.ofBits .f32 0xC479FF5C#32) (hb hr hc zb zr zc zk sb sr sc h5 hh)
    (b : Fin 4) (r c : Fin 222) (i : Fin C) :
    mulf a (uitofp .f32 (cmpf .une (Host.scatter (sd C k wf) (fun _ y => y) fill
        (words C k (Host.topK (sC k) 3 (FloatOps.cmpfTotal (F := Ideal) (φ := .f32) .gt) (Host.absf a) h).2 hb hr hc zb zr zc zk sb sr sc h5 hh)
        (Host.topK (sC k) 3 (FloatOps.cmpfTotal (F := Ideal) (φ := .f32) .gt) (Host.absf a) h).1) fill)) (ix4 b r c i)
      = Spec.keep k (fun i => a (ix4 b r c i)) i := by
  have habs : ∀ q, Host.absf a q = Spec.mag (a q) := fun q => rfl
  have hs := scatter_topK wf (Host.absf a) h hk hC fill
    (words C k (Host.topK (sC k) 3 (FloatOps.cmpfTotal (F := Ideal) (φ := .f32) .gt) (Host.absf a) h).2 hb hr hc zb zr zc zk sb sr sc h5 hh)
    (fun b r c j => by
      unfold words
      refine (join_apply _ _ _ _ hh b r c j 0).trans ?_
      exact coordWords_apply (sL 4 1 1) ![0] 4 4#32 hb zb ![0, 1, 2, 3] sb h5 b r c j (ix4 b 0 0 0) b (by omega)
        (fun a => by
          match a with
          | ⟨0, _⟩ => rfl
          | ⟨1, _⟩ => rfl
          | ⟨2, _⟩ => rfl
          | ⟨3, _⟩ => rfl) rfl)
    (fun b r c j => by
      unfold words
      refine (join_apply _ _ _ _ hh b r c j 1).trans ?_
      exact coordWords_apply (sL 1 222 1) ![1] 222 222#32 hr zr ![0, 1, 2, 3] sr h5 b r c j (ix4 0 r 0 0) r (by omega)
        (fun a => by
          match a with
          | ⟨0, _⟩ => rfl
          | ⟨1, _⟩ => rfl
          | ⟨2, _⟩ => rfl
          | ⟨3, _⟩ => rfl) rfl)
    (fun b r c j => by
      unfold words
      refine (join_apply _ _ _ _ hh b r c j 2).trans ?_
      exact coordWords_apply (sL 1 1 222) ![2] 222 222#32 hc zc ![0, 1, 2, 3] sc h5 b r c j (ix4 0 0 c 0) c (by omega)
        (fun a => by
          match a with
          | ⟨0, _⟩ => rfl
          | ⟨1, _⟩ => rfl
          | ⟨2, _⟩ => rfl
          | ⟨3, _⟩ => rfl) rfl)
    (fun b r c j => by
      unfold words
      refine (join_apply _ _ _ _ hh b r c j 3).trans ?_
      refine (lastAxis_apply h5 (wrapped (sC k) zk (BitVec.ofNat 32 C) (Host.topK (sC k) 3 (FloatOps.cmpfTotal (F := Ideal) (φ := .f32) .gt) (Host.absf a) h).2) b r c j 0).trans ?_
      rw [wrapped_apply]
      obtain ⟨p, -, -, hp⟩ := topK_apply (Host.absf a) h hk b r c j
      rw [hp, BitVec.toNat_ofNat]
      have := p.isLt
      exact lt_of_le_of_lt (Nat.mod_le _ _) (by omega))
    b r c i
  show a (ix4 b r c i) * ((((BitVec.ofBool (decide (Host.scatter (sd C k wf) (fun _ y => y) fill _ _ (ix4 b r c i) ≠ fill (ix4 b r c i)))).toNat : ℝ)) : EReal) = _
  rw [hs, Spec.bit_word]
  unfold Spec.keep
  have hr' : Rank.rank (α := EReal) (fun i : Fin C => Host.absf a (ix4 b r c i)) i = Rank.rank (fun j : Fin C => Spec.mag (a (ix4 b r c j))) i := rfl
  rw [hr']
  by_cases hlt : Rank.rank (fun j : Fin C => Spec.mag (a (ix4 b r c j))) i < k
  · rw [if_pos hlt, if_pos hlt, if_pos, mul_one]
    rw [habs, hf]
    exact (Spec.fill_lt _).ne'
  · rw [if_neg hlt, if_neg hlt, if_neg (fun hne => hne rfl), mul_zero]

end Cert.Proof.RefMask
-- ==== Proof.RefLevel.lean ====
/-
  THE REFERENCE'S LEVEL, once for every level: the mask read channels first, and the gate computed from the level below through the connection table.
-/
module

public import proofs.«01_k».proof.Proof.RefMask

@[expose] public section

set_option maxRecDepth 16384

noncomputable section

namespace Cert.Proof.RefLevel

open Idealize Idealize.ShloMosaic Idealize.ShloMosaic.ValueIdx Cert.Proof.TopScatter Cert.Proof.RefMask

/-- Channels second. -/
abbrev sN (C : Nat) : Shape := ⟨4, ![4, C, 222, 222]⟩
/-- The product's shape: channels first. -/
abbrev sP (C : Nat) : Shape := ⟨4, ![C, 4, 222, 222]⟩
/-- A connection table's shape. -/
abbrev sT (na nb : Nat) : Shape := ⟨2, ![na, nb]⟩

variable {C k na nb : Nat}

/-- The masked level: channels moved last, the mask of the listed magnitudes applied, channels moved back. -/
def level (C k : Nat) (wf : ScatterDims.WF (sC C) (sI k) (sC k) [] [0, 1, 2, 3] [0, 1, 2, 3] 4) (h : (sC C).Slices (fun _ => 0) (sC k)) (hz : s0.BroadcastsInDim (sC C) ![]) (h1 : (sN C).Transposes [0, 2, 3, 1] (sC C))
    (h2 : (sC C).Transposes [0, 3, 1, 2] (sN C))
    (hb : Shape.BroadcastsInDim ⟨1, ![4]⟩ (sL 4 1 1) ![0]) (hr : Shape.BroadcastsInDim ⟨1, ![222]⟩ (sL 1 222 1) ![1])
    (hc : Shape.BroadcastsInDim ⟨1, ![222]⟩ (sL 1 1 222) ![2]) (zb : s0.BroadcastsInDim (sL 4 1 1) ![]) (zr : s0.BroadcastsInDim (sL 1 222 1) ![])
    (zc : s0.BroadcastsInDim (sL 1 1 222) ![]) (zk : s0.BroadcastsInDim (sC k) ![]) (sb : (sL 4 1 1).BroadcastsInDim (sC k) ![0, 1, 2, 3])
    (sr : (sL 1 222 1).BroadcastsInDim (sC k) ![0, 1, 2, 3]) (sc : (sL 1 1 222).BroadcastsInDim (sC k) ![0, 1, 2, 3])
    (h5 : (sC k).BroadcastsInDim (sJ k) ![0, 1, 2, 3]) (hh : Shape.Concatenates [sJ k, sJ k, sJ k, sJ k] (sI k) 4) (y : FVec Ideal (sN C) .f32) : FVec Ideal (sN C) .f32 :=
  transpose (sN C) [0, 3, 1, 2]
    (mulf (transpose (sC C) [0, 2, 3, 1] y h1) (uitofp .f32 (cmpf .une
      (Host.scatter (sd C k wf) (fun _ y => y) (broadcastInDim (sC C) ![] hz (constant s0 .f32 0xC479FF5C#32))
        (words C k (Host.topK (sC k) 3 (FloatOps.cmpfTotal (F := Ideal) (φ := .f32) .gt) (Host.absf (transpose (sC C) [0, 2, 3, 1] y h1)) h).2
          hb hr hc zb zr zc zk sb sr sc h5 hh)
        (Host.topK (sC k) 3 (FloatOps.cmpfTotal (F := Ideal) (φ := .f32) .gt) (Host.absf (transpose (sC C) [0, 2, 3, 1] y h1)) h).1)
      (broadcastInDim (sC C) ![] hz (constant s0 .f32 0xC479FF5C#32))))) h2

/-- The masked level at a pixel keeps the largest magnitudes. -/
theorem level_apply (wf) (h hz h1 h2) (hk : k ≤ C) (hC : C ≤ 2 ^ 31) (hb hr hc zb zr zc zk sb sr sc h5 hh) (y : FVec Ideal (sN C) .f32)
    (b : Fin 4) (i : Fin C) (r c : Fin 222) :
    level C k wf h hz h1 h2 hb hr hc zb zr zc zk sb sr sc h5 hh y (ix4 b i r c) = Spec.keep k (fun i => y (ix4 b i r c)) i := by
  unfold level
  have e : ∀ i : Fin C, transpose (sC C) [0, 2, 3, 1] y h1 (ix4 b r c i) = y (ix4 b i r c) := fun i =>
    transpose_apply [0, 2, 3, 1] y h1 _ (ix4 b i r c) fun a => by
      match a with
      | ⟨0, _⟩ => rfl
      | ⟨1, _⟩ => rfl
      | ⟨2, _⟩ => rfl
      | ⟨3, _⟩ => rfl
  rw [transpose_apply [0, 3, 1, 2] _ h2 (ix4 b i r c) (ix4 b r c i) fun a => by
      match a with
      | ⟨0, _⟩ => rfl
      | ⟨1, _⟩ => rfl
      | ⟨2, _⟩ => rfl
      | ⟨3, _⟩ => rfl]
  rw [masked_apply wf (transpose (sC C) [0, 2, 3, 1] y h1) h hk hC (broadcastInDim (sC C) ![] hz (constant s0 .f32 0xC479FF5C#32)) (fun _ => rfl) hb hr hc zb zr zc zk sb sr sc h5 hh b r c i]
  exact congrArg (fun f => Spec.keep k f i) (funext e)

/-- The product of a connection table and a level: contracted over the level's atoms. -/
abbrev dd (na nb : Nat) (wf : DotDims.WF (sT na nb) (sN na) (sP nb) [0] [1] [1] [0, 2, 3] [] []) : DotDims (sT na nb) (sN na) (sP nb) where
  lhsContracting := [0]
  rhsContracting := [1]
  lhsNonContracting := [1]
  rhsNonContracting := [0, 2, 3]
  lhsBatch := []
  rhsBatch := []
  wf := wf

/-- That product at an index is the sum over the atoms. -/
theorem dot_apply (wf) (t : FVec Ideal (sT na nb) .f32) (m : FVec Ideal (sN na) .f32) (i : Fin nb) (b : Fin 4) (r c : Fin 222) :
    Host.dotGeneral (dd na nb wf) none t m (ix4 i b r c) = ∑ j : Fin na, t (ix2 j i) * m (ix4 b j r c) := by
  simp only [Host.dotGeneral]
  rw [Ideal.dotGeneral_apply, ← Equiv.sum_comp (contrEquiv1 (dd na nb wf) na rfl rfl).symm]
  refine Finset.sum_congr rfl fun j _ => ?_
  have hj := contrEquiv1_symm_val (dd na nb wf) na rfl rfl j
  have el : (dd na nb wf).lhsIdx (ix4 i b r c) ((contrEquiv1 (dd na nb wf) na rfl rfl).symm j) = ix2 j i := funext fun a => Fin.ext (by
    match a with
    | ⟨0, _⟩ => exact ((dd na nb wf).lhsIdx_val_of_single rfl _ _).trans hj
    | ⟨1, _⟩ => rfl)
  have er : (dd na nb wf).rhsIdx (ix4 i b r c) ((contrEquiv1 (dd na nb wf) na rfl rfl).symm j) = ix4 b j r c := funext fun a => Fin.ext (by
    match a with
    | ⟨0, _⟩ => rfl
    | ⟨1, _⟩ => exact ((dd na nb wf).rhsIdx_val_of_single rfl _ _).trans hj
    | ⟨2, _⟩ => rfl
    | ⟨3, _⟩ => rfl)
  rw [el, er]

/-- One word of the connection table, as the reference computes it. -/
def linkWord (nb : Nat) (j i : BitVec 32) : BitVec 1 :=
  IntOp.cmpi .slt (IntOp.remsi .host (IntOp.addi (IntOp.subi i (IntOp.muli 2#32 j)) (BitVec.ofNat 32 nb)) (BitVec.ofNat 32 nb)) 4#32

/-- The connection table, as the reference computes it. -/
def table (na nb : Nat) (h : s0.BroadcastsInDim (sT na nb) ![]) : FVec Ideal (sT na nb) .f32 :=
  uitofp .f32 (cmpi .slt (Host.remsi (addi (subi (iotaInDim (sT na nb) 32 1) (muli (broadcastInDim (sT na nb) ![] h (constantI s0 32 2#32)) (iotaInDim (sT na nb) 32 0)))
    (broadcastInDim (sT na nb) ![] h (constantI s0 32 (BitVec.ofNat 32 nb)))) (broadcastInDim (sT na nb) ![] h (constantI s0 32 (BitVec.ofNat 32 nb))))
    (broadcastInDim (sT na nb) ![] h (constantI s0 32 4#32)))

/-- The gated level: the slice of activations times the comparison of the linked sum with zero. -/
def gated (na nb : Nat) (wf : DotDims.WF (sT na nb) (sN na) (sP nb) [0] [1] [1] [0, 2, 3] [] []) (ht : s0.BroadcastsInDim (sT na nb) ![])
    (hz : s0.BroadcastsInDim (sN na) ![]) (hz' : s0.BroadcastsInDim (sN nb) ![]) (hp : (sP nb).Transposes [1, 0, 2, 3] (sN nb)) (m : FVec Ideal (sN na) .f32) (y : FVec Ideal (sN nb) .f32) :
    FVec Ideal (sN nb) .f32 :=
  mulf y (uitofp .f32 (cmpf .ogt (transpose (sN nb) [1, 0, 2, 3] (Host.dotGeneral (dd na nb wf) none (table na nb ht)
    (uitofp .f32 (cmpf .une m (broadcastInDim (sN na) ![] hz (constant s0 .f32 0x00000000#32))))) hp)
    (broadcastInDim (sN nb) ![] hz' (constant s0 .f32 0x00000000#32))))

/-- The gated level at a pixel is the activation times the gate of the level below. `hw` is the table's content. -/
theorem gated_apply (wf ht hz hz' hp) (m : FVec Ideal (sN na) .f32) (y : FVec Ideal (sN nb) .f32)
    (hw : ∀ (j : Fin na) (i : Fin nb), linkWord nb (BitVec.ofNat 32 j.val) (BitVec.ofNat 32 i.val) = BitVec.ofBool (decide ((i.val + nb - 2 * j.val) % nb < 4)))
    (b : Fin 4) (i : Fin nb) (r c : Fin 222) :
    gated na nb wf ht hz hz' hp m y (ix4 b i r c) = y (ix4 b i r c) * Spec.gate (fun j => m (ix4 b j r c)) i := by
  have hsum : transpose (sN nb) [1, 0, 2, 3] (Host.dotGeneral (dd na nb wf) none (table na nb ht)
      (uitofp .f32 (cmpf .une m (broadcastInDim (sN na) ![] hz (constant s0 .f32 0x00000000#32))))) hp (ix4 b i r c)
      = ∑ j : Fin na, Spec.link na nb i j * Spec.flag (m (ix4 b j r c)) := by
    rw [transpose_apply [1, 0, 2, 3] _ hp (ix4 b i r c) (ix4 i b r c) fun a => by
      match a with
      | ⟨0, _⟩ => rfl
      | ⟨1, _⟩ => rfl
      | ⟨2, _⟩ => rfl
      | ⟨3, _⟩ => rfl]
    rw [dot_apply]
    refine Finset.sum_congr rfl fun j _ => ?_
    have h1 : table na nb ht (ix2 j i) = Spec.link na nb i j := by
      show ((((linkWord nb (BitVec.ofNat 32 j.val) (BitVec.ofNat 32 i.val)).toNat : ℝ)) : EReal) = _
      rw [hw, Spec.bit_word]
      rfl
    have h2 : uitofp (F := Ideal) .f32 (cmpf .une m (broadcastInDim (sN na) ![] hz (constant s0 .f32 0x00000000#32))) (ix4 b j r c)
        = Spec.flag (m (ix4 b j r c)) := by
      show ((((BitVec.ofBool (decide (m (ix4 b j r c) ≠ Ideal.ofBits .f32 0x00000000#32))).toNat : ℝ)) : EReal) = _
      rw [Ideal.ofBits_zero_f32, Spec.flag_word]
    rw [h1, h2]
  show y (ix4 b i r c) * ((((BitVec.ofBool (decide (Ideal.ofBits .f32 0x00000000#32 < transpose (sN nb) [1, 0, 2, 3] _ hp (ix4 b i r c)))).toNat : ℝ)) : EReal) = _
  rw [hsum, Ideal.ofBits_zero_f32, Spec.bit_word]
  rfl

end Cert.Proof.RefLevel
-- ==== Proof.RefValue.lean ====
/-
  THE REFERENCE'S RESULT. The generated stages are the level functions of RefLevel.lean one after another over the convolution, so the result at an
  index is the column function `Spec.out` of the convolution there.
-/
module

public import proofs.«01_k».proof.Proof.RefLevel
public import proofs.«01_k».proof.Proof.Gen.ReferenceIdeal.Read

@[expose] public section

set_option maxRecDepth 16384

noncomputable section

namespace Cert.Proof.RefValue

open Idealize Idealize.ShloMosaic Idealize.ShloMosaic.ValueIdx Cert.Proof.TopScatter Cert.Proof.RefMask Cert.Proof.RefLevel
open Cert.ReferenceIdeal Cert.ReferenceIdeal.Gen Cert.ReferenceIdeal.Read

/-! ## The convolution -/

/-- One tap of the convolution, as the reference writes it. -/
def tapTerm (dy dx : Fin 3) (hx : S4x96x224x224.Slices ![0, 0, dy.val, dx.val] S4x96x222x222) (hw : S120x96x3x3.Slices ![0, 0, dy.val, dx.val] S120x96x1x1)
    (x : FVec Ideal S4x96x224x224 .f32) (W : FVec Ideal S120x96x3x3 .f32) : FVec Ideal S4x120x222x222 .f32 :=
  transpose S4x120x222x222 [1, 0, 2, 3]
    (Host.dotGeneral dot_S120x96_S4x96x222x222_S120x4x222x222_1_1_0_023_n_n none
      (shapeCast _ (extractStridedSlice S120x96x1x1 ![0, 0, dy.val, dx.val] W hw) shapeCasts_S120x96x1x1_S120x96)
      (extractStridedSlice S4x96x222x222 ![0, 0, dy.val, dx.val] x hx)) transposes_S120x4x222x222_S4x120x222x222_1_0_2_3

/-- The convolution's product at an index is the sum over the channels. -/
theorem convDot_apply (w : FVec Ideal S120x96 .f32) (x : FVec Ideal S4x96x222x222 .f32) (o : Fin 120) (b : Fin 4) (r c : Fin 222) :
    Host.dotGeneral dot_S120x96_S4x96x222x222_S120x4x222x222_1_1_0_023_n_n none w x (ix4 o b r c) = ∑ k : Fin 96, w (ix2 o k) * x (ix4 b k r c) := by
  simp only [Host.dotGeneral]
  rw [Ideal.dotGeneral_apply, ← Equiv.sum_comp (contrEquiv1 dot_S120x96_S4x96x222x222_S120x4x222x222_1_1_0_023_n_n 96 rfl rfl).symm]
  refine Finset.sum_congr rfl fun k _ => ?_
  have hk := contrEquiv1_symm_val dot_S120x96_S4x96x222x222_S120x4x222x222_1_1_0_023_n_n 96 rfl rfl k
  refine congrArg₂ (fun p q => w p * x q) (funext fun a => Fin.ext ?_) (funext fun a => Fin.ext ?_)
  · match a with
    | ⟨0, _⟩ => exact lhs_main_v4_0 _ _
    | ⟨1, _⟩ => exact (lhs_main_v4_1 _ _).trans hk
  · match a with
    | ⟨0, _⟩ => exact rhs_main_v4_0 _ _
    | ⟨1, _⟩ => exact (rhs_main_v4_1 _ _).trans hk
    | ⟨2, _⟩ => exact rhs_main_v4_2 _ _
    | ⟨3, _⟩ => exact rhs_main_v4_3 _ _

/-- One tap at a pixel. -/
theorem tapTerm_apply (dy dx : Fin 3) (hx hw) (x : FVec Ideal S4x96x224x224 .f32) (W : FVec Ideal S120x96x3x3 .f32) (b : Fin 4) (o : Fin 120) (r c : Fin 222) :
    tapTerm dy dx hx hw x W (ix4 b o r c) = Spec.tap x W dy dx b r c o := by
  unfold tapTerm
  rw [transpose_apply [1, 0, 2, 3] _ transposes_S120x4x222x222_S4x120x222x222_1_0_2_3 (ix4 b o r c) (ix4 o b r c) fun a => by
      match a with
      | ⟨0, _⟩ => rfl
      | ⟨1, _⟩ => rfl
      | ⟨2, _⟩ => rfl
      | ⟨3, _⟩ => rfl]
  rw [convDot_apply]
  refine Finset.sum_congr rfl fun k _ => congrArg₂ (· * ·) ?_ ?_
  · rw [shapeCast_apply _ shapeCasts_S120x96x1x1_S120x96 (ix2 o k) (ix4 o k 0 0) (by
      rw [Shape.rowMajor_val_four, Shape.rowMajor_val_two]
      show ((o.val * 96 + k.val) * 1 + 0) * 1 + 0 = o.val * 96 + k.val
      omega)]
    exact extractStridedSlice_apply _ W hw _ (ix4 o k dy dx) fun a => by
      match a with
      | ⟨0, _⟩ => show o.val = 0 + o.val; omega
      | ⟨1, _⟩ => show k.val = 0 + k.val; omega
      | ⟨2, _⟩ => show dy.val = dy.val + 0; omega
      | ⟨3, _⟩ => show dx.val = dx.val + 0; omega
  · exact extractStridedSlice_apply _ x hx _ (ix4 b k ⟨r.val + dy.val, by omega⟩ ⟨c.val + dx.val, by omega⟩) fun a => by
      match a with
      | ⟨0, _⟩ => show b.val = 0 + b.val; omega
      | ⟨1, _⟩ => show k.val = 0 + k.val; omega
      | ⟨2, _⟩ => show r.val + dy.val = dy.val + r.val; omega
      | ⟨3, _⟩ => show c.val + dx.val = dx.val + c.val; omega

variable (x : FVec Ideal S4x96x224x224 .f32) (W : FVec Ideal S120x96x3x3 .f32) (bias : FVec Ideal S120 .f32)

/-- The reference's activations at a pixel are the nine taps and the bias. -/
theorem acts_apply (b : Fin 4) (o : Fin 120) (r c : Fin 222) : val_main_v57 (F := Ideal) x W bias (ix4 b o r c) = Spec.act x W bias b r c o := by
  have hb : val_main_v56 (F := Ideal) bias (ix4 b o r c) = bias (ix1 o) := by
    rw [val_main_v56_apply, val_main_v55_apply]
    exact congrArg bias (funext fun a => by match a with | ⟨0, _⟩ => rfl)
  unfold Spec.act
  rw [← Ideal.ofBits_zero_f32, ← hb]
  have hx : ∀ dy dx : Fin 3, S4x96x224x224.Slices ![0, 0, dy.val, dx.val] S4x96x222x222 := by decide
  have hw : ∀ dy dx : Fin 3, S120x96x3x3.Slices ![0, 0, dy.val, dx.val] S120x96x1x1 := by decide
  simp only [← fun dy dx => tapTerm_apply dy dx (hx dy dx) (hw dy dx) x W]
  rfl

/-! ## The levels -/

/-- A slice of the activations, from channel `n`. -/
theorem slice_apply (n C : Nat) (hs : S4x120x222x222.Slices ![0, n, 0, 0] (sN C)) (y : FVec Ideal S4x120x222x222 .f32) (b : Fin 4) (i : Fin C) (r c : Fin 222)
    (h : n + i.val < 120) : extractStridedSlice (sN C) ![0, n, 0, 0] y hs (ix4 b i r c) = y (ix4 b ⟨n + i.val, h⟩ r c) :=
  extractStridedSlice_apply _ y hs _ _ fun a => by
    match a with
    | ⟨0, _⟩ => show b.val = 0 + b.val; omega
    | ⟨1, _⟩ => rfl
    | ⟨2, _⟩ => show r.val = 0 + r.val; omega
    | ⟨3, _⟩ => show c.val = 0 + c.val; omega

variable (b : Fin 4) (r c : Fin 222)

/-- A level above the first: kept entries of the slice times the gate of the level below `m`. -/
theorem step_apply {na C k n : Nat} (hs : S4x120x222x222.Slices ![0, n, 0, 0] (sN C)) (wg ht hz hz' hp) (m : FVec Ideal (sN na) .f32) (p : Fin na → EReal)
    (hm : ∀ j, m (ix4 b j r c) = p j)
    (hw : ∀ (j : Fin na) (i : Fin C), linkWord C (BitVec.ofNat 32 j.val) (BitVec.ofNat 32 i.val) = BitVec.ofBool (decide ((i.val + C - 2 * j.val) % C < 4)))
    (hn : n + C ≤ 120) (i : Fin C) :
    Spec.keep k (fun i => gated na C wg ht hz hz' hp m (extractStridedSlice (sN C) ![0, n, 0, 0] (val_main_v57 (F := Ideal) x W bias) hs) (ix4 b i r c)) i
      = Spec.keep k (fun i => Spec.act x W bias b r c ⟨n + i.val, by omega⟩ * Spec.gate p i) i := by
  refine congrArg (fun f => Spec.keep k f i) (funext fun j => ?_)
  rw [gated_apply wg ht hz hz' hp m _ hw b j r c, slice_apply n C hs _ b j r c (by omega), acts_apply, funext hm]

/-- The first level. -/
theorem level0_apply (i : Fin 8) : val_main_v101 (F := Ideal) x W bias (ix4 b i r c) = Spec.l0 (Spec.act x W bias b r c) i := by
  refine (level_apply (C := 8) (k := 2) scatter_S4x222x222x8_S4x222x222x2x4_S4x222x222x2_n_0123_0123_4.wf sliceFits_S4x222x222x8_S4x222x222x2
    (by decide) (by decide) (by decide) (by omega) (by omega) (by decide) (by decide) (by decide) (by decide) (by decide) (by decide) (by decide)
    (by decide) (by decide) (by decide) (by decide) (by decide) (val_main_v58 (F := Ideal) x W bias) b i r c).trans ?_
  unfold Spec.l0
  refine congrArg (fun f => Spec.keep 2 f i) (funext fun j => ?_)
  exact (slice_apply 0 8 _ _ b j r c (by omega)).trans (acts_apply x W bias b _ r c)

/-- The second level. -/
theorem level1_apply (i : Fin 16) : val_main_v166 (F := Ideal) x W bias (ix4 b i r c) = Spec.l1 (Spec.act x W bias b r c) i := by
  refine (level_apply (C := 16) (k := 4) scatter_S4x222x222x16_S4x222x222x4x4_S4x222x222x4_n_0123_0123_4.wf sliceFits_S4x222x222x16_S4x222x222x4
    (by decide) (by decide) (by decide) (by omega) (by omega) (by decide) (by decide) (by decide) (by decide) (by decide) (by decide) (by decide)
    (by decide) (by decide) (by decide) (by decide) (by decide) (val_main_v123 (F := Ideal) x W bias) b i r c).trans ?_
  exact step_apply (na := 8) (C := 16) (k := 4) (n := 8) x W bias b r c (by decide) dot_S8x16_S4x8x222x222_S16x4x222x222_0_1_1_023_n_n.wf
    (by decide) (by decide) (by decide) (by decide) (val_main_v101 (F := Ideal) x W bias) _ (fun j => level0_apply x W bias b r c j) (by decide +kernel) (by omega) i

/-- The third level. -/
theorem level2_apply (i : Fin 32) : val_main_v231 (F := Ideal) x W bias (ix4 b i r c) = Spec.l2 (Spec.act x W bias b r c) i := by
  refine (level_apply (C := 32) (k := 8) scatter_S4x222x222x32_S4x222x222x8x4_S4x222x222x8_n_0123_0123_4.wf sliceFits_S4x222x222x32_S4x222x222x8
    (by decide) (by decide) (by decide) (by omega) (by omega) (by decide) (by decide) (by decide) (by decide) (by decide) (by decide) (by decide)
    (by decide) (by decide) (by decide) (by decide) (by decide) (val_main_v188 (F := Ideal) x W bias) b i r c).trans ?_
  exact step_apply (na := 16) (C := 32) (k := 8) (n := 24) x W bias b r c (by decide) dot_S16x32_S4x16x222x222_S32x4x222x222_0_1_1_023_n_n.wf
    (by decide) (by decide) (by decide) (by decide) (val_main_v166 (F := Ideal) x W bias) _ (fun j => level1_apply x W bias b r c j) (by decide +kernel) (by omega) i

/-- The fourth level. -/
theorem level3_apply (i : Fin 64) : val_main_v296 (F := Ideal) x W bias (ix4 b i r c) = Spec.l3 (Spec.act x W bias b r c) i := by
  refine (level_apply (C := 64) (k := 16) scatter_S4x222x222x64_S4x222x222x16x4_S4x222x222x16_n_0123_0123_4.wf sliceFits_S4x222x222x64_S4x222x222x16
    (by decide) (by decide) (by decide) (by omega) (by omega) (by decide) (by decide) (by decide) (by decide) (by decide) (by decide) (by decide)
    (by decide) (by decide) (by decide) (by decide) (by decide) (val_main_v253 (F := Ideal) x W bias) b i r c).trans ?_
  exact step_apply (na := 32) (C := 64) (k := 16) (n := 56) x W bias b r c (by decide) dot_S32x64_S4x32x222x222_S64x4x222x222_0_1_1_023_n_n.wf
    (by decide) (by decide) (by decide) (by decide) (val_main_v231 (F := Ideal) x W bias) _ (fun j => level2_apply x W bias b r c j) (by decide +kernel) (by omega) i

/-! ## The levels joined -/

/-- Four levels joined along the channels: a channel of piece `q`, which starts at channel `n`, is that piece's own channel. -/
theorem join_apply (y0 : FVec Ideal (sN 8) .f32) (y1 : FVec Ideal (sN 16) .f32) (y2 : FVec Ideal (sN 32) .f32) (y3 : FVec Ideal (sN 64) .f32)
    (hh : Shape.Concatenates [sN 8, sN 16, sN 32, sN 64] S4x120x222x222 1) (n C q : Nat) (hq : q < 4) (y : FVec Ideal (sN C) .f32) (i : Fin C) (o : Fin 120)
    (hi : n + i.val = o.val) (hy : ([⟨sN 8, y0⟩, ⟨sN 16, y1⟩, ⟨sN 32, y2⟩, ⟨sN 64, y3⟩] : List ((s : Shape) × (s.Idx → EReal)))[q]'hq = ⟨sN C, y⟩)
    (hpre : ((([sN 8, sN 16, sN 32, sN 64] : List Shape).take q).map fun s => if h : s.rank = 4 then s.size (Fin.cast h.symm (1 : Fin 4)) else 0).sum = n) :
    concatenate S4x120x222x222 1 [⟨sN 8, y0⟩, ⟨sN 16, y1⟩, ⟨sN 32, y2⟩, ⟨sN 64, y3⟩] hh (ix4 b o r c) = y (ix4 b i r c) := by
  refine concatenate_apply_piece (t := S4x120x222x222) 1 [⟨sN 8, y0⟩, ⟨sN 16, y1⟩, ⟨sN 32, y2⟩, ⟨sN 64, y3⟩] hh (ix4 b o r c) q hq (sN C) y hy rfl n
    ?_ (ix4 b i r c) ?_ hi
  · rw [← hpre, List.map_take]
    rfl
  · intro a ha
    match a with
    | ⟨0, _⟩ => rfl
    | ⟨1, _⟩ => exact absurd rfl ha
    | ⟨2, _⟩ => rfl
    | ⟨3, _⟩ => rfl

/-- The reference's result at a pixel is the column function of its activations. -/
theorem result_apply (o : Fin 120) : val_main_v300 (F := Ideal) x W bias (ix4 b o r c) = Spec.out (Spec.act x W bias b r c) o := by
  unfold Spec.out val_main_v300
  by_cases h0 : o.val < 8
  · rw [dif_pos h0, ← level0_apply]
    exact join_apply b r c _ _ _ _ _ 0 8 0 (by omega) _ ⟨o.val, h0⟩ o (by show 0 + o.val = o.val; omega) rfl rfl
  rw [dif_neg h0]
  by_cases h1 : o.val < 24
  · rw [dif_pos h1, ← level1_apply]
    exact join_apply b r c _ _ _ _ _ 8 16 1 (by omega) _ ⟨o.val - 8, by omega⟩ o (by show 8 + (o.val - 8) = o.val; omega) rfl rfl
  rw [dif_neg h1]
  by_cases h2 : o.val < 56
  · rw [dif_pos h2, ← level2_apply]
    exact join_apply b r c _ _ _ _ _ 24 32 2 (by omega) _ ⟨o.val - 24, by omega⟩ o (by show 24 + (o.val - 24) = o.val; omega) rfl rfl
  rw [dif_neg h2, ← level3_apply]
  exact join_apply b r c _ _ _ _ _ 56 64 3 (by omega) _ ⟨o.val - 56, by omega⟩ o (by show 56 + (o.val - 56) = o.val; omega) rfl rfl

end Cert.Proof.RefValue
-- ==== Proof.lean ====
/-
  THE CERTIFICATE. Each program runs, leaves its arguments alone and ends with every semaphore at zero; the ideal pass rewrote nothing; and over the
  ideal numbers the kernel's result is the reference's, from any arguments.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.KernelValue
public import proofs.«01_k».proof.Proof.RefValue
public import Idealize.ShloMosaic.Lib.Quiescent

@[expose] public section

noncomputable section

namespace Cert.Proof

open Idealize.ShloMosaic Idealize.ShloMosaic.TcCoe Idealize.SL.Sem

/-- The kernel runs, its arguments unchanged and its semaphores at zero. -/
theorem frame_kernel [Cert.Kernel.Facts] : Cert.quiescent_Kernel := fun m ρ _ => Cert.Kernel.Gen.frame m ρ

/-- So does its idealization. -/
theorem frame_kernelIdeal [Cert.KernelIdeal.Facts] : Cert.quiescent_KernelIdeal := fun m ρ _ => Cert.KernelIdeal.Gen.frame m ρ

/-- The reference runs, its arguments unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result, as one array, is the kernel's. -/
theorem reference_eq (x : FVec Ideal Cert.ReferenceIdeal.S4x96x224x224 .f32) (W : FVec Ideal Cert.ReferenceIdeal.S120x96x3x3 .f32)
    (bias : FVec Ideal Cert.ReferenceIdeal.S120 .f32) :
    Cert.ReferenceIdeal.Read.val_main_v300 (F := Ideal) x W bias = KernelValue.result x W bias := by
  funext i
  refine (congrArg (Cert.ReferenceIdeal.Read.val_main_v300 (F := Ideal) x W bias) (ValueIdx.eq_ix4 i)).trans ?_
  exact RefValue.result_apply x W bias (i 0) (i 2) (i 3) (i 1)

/-- From equal arguments the idealized kernel and the idealized reference end with the same result: the convolution's activations, gated level by level. -/
theorem algebraic [Cert.KernelIdeal.Facts] [Cert.ReferenceIdeal.Facts] : Cert.algebraic_KernelIdeal_ReferenceIdeal := by
  intro m ρ m' ρ' _ hagree
  refine ⟨fun c => KernelValue.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono (fun _ h c => ⟨(h c).1.trans (KernelValue.array_eq m c), (h c).2⟩)
      (Cert.KernelIdeal.Value.run_blocks (F := Ideal) m ρ)
  · refine (θ_run Cert.ReferenceIdeal.defs _ _).mono (fun _ h c => ⟨(h c).1.trans ?_, (h c).2⟩) (Cert.ReferenceIdeal.Value.run (F := Ideal) m' ρ')
    obtain ⟨a0, a1, a2⟩ := hagree c
    refine (Cert.ReferenceIdeal.Read.val_main_v300_eq _).trans ((reference_eq _ _ _).trans ?_)
    exact congr (congr (congrArg KernelValue.result a0) a1) a2

/-- All the claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
